-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)) (v5 : (c : Dev Cert.Kernel2Ideal.nD) → Buf (Elt Ideal) ((c.tc : Thread Cert.Kernel2Ideal.nD Cert.Kernel2Ideal.τ).loc Cert.Kernel2Ideal.main_v28_5)) (v6 : (c : Dev Cert.Kernel2Ideal.nD) → Buf (Elt Ideal) ((c.tc : Thread Cert.Kernel2Ideal.nD Cert.Kernel2Ideal.τ).loc Cert.Kernel2Ideal.main_v28_6)) (v7 : (c : Dev Cert.Kernel2Ideal.nD) → Buf (Elt Ideal) ((c.tc : Thread Cert.Kernel2Ideal.nD Cert.Kernel2Ideal.τ).loc Cert.Kernel2Ideal.main_v28_7)) (v8 : (c : Dev Cert.Kernel2Ideal.nD) → Buf (Elt Ideal) ((c.tc : Thread Cert.Kernel2Ideal.nD Cert.Kernel2Ideal.τ).loc Cert.Kernel2Ideal.main_v28_8)) (v9 : (c : Dev Cert.Kernel2Ideal.nD) → Buf (Elt Ideal) ((c.tc : Thread Cert.Kernel2Ideal.nD Cert.Kernel2Ideal.τ).loc Cert.Kernel2Ideal.main_v28_9)) (v10 : (c : Dev Cert.Kernel2Ideal.nD) → Buf (Elt Ideal) ((c.tc : Thread Cert.Kernel2Ideal.nD Cert.Kernel2Ideal.τ).loc Cert.Kernel2Ideal.main_v28_10)) (v11 : (c : Dev Cert.Kernel2Ideal.nD) → Buf (Elt Ideal) ((c.tc : Thread Cert.Kernel2Ideal.nD Cert.Kernel2Ideal.τ).loc Cert.Kernel2Ideal.main_v28_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_v28_5) = v5 c
          ∧ r.2.mem ((c.tc : Thread Cert.Kernel2Ideal.nD Cert.Kernel2Ideal.τ).loc Cert.Kernel2Ideal.main_v28_6) = v6 c
          ∧ r.2.mem ((c.tc : Thread Cert.Kernel2Ideal.nD Cert.Kernel2Ideal.τ).loc Cert.Kernel2Ideal.main_v28_7) = v7 c
          ∧ r.2.mem ((c.tc : Thread Cert.Kernel2Ideal.nD Cert.Kernel2Ideal.τ).loc Cert.Kernel2Ideal.main_v28_8) = v8 c
          ∧ r.2.mem ((c.tc : Thread Cert.Kernel2Ideal.nD Cert.Kernel2Ideal.τ).loc Cert.Kernel2Ideal.main_v28_9) = v9 c
          ∧ r.2.mem ((c.tc : Thread Cert.Kernel2Ideal.nD Cert.Kernel2Ideal.τ).loc Cert.Kernel2Ideal.main_v28_10) = v10 c
          ∧ r.2.mem ((c.tc : Thread Cert.Kernel2Ideal.nD Cert.Kernel2Ideal.τ).loc Cert.Kernel2Ideal.main_v28_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v92) = v0 c
          ∧ r.2.mem ((c.tc : Thread Cert.Reference2Ideal.nD Cert.Reference2Ideal.τ).loc Cert.Reference2Ideal.main_v93) = v1 c
          ∧ r.2.mem ((c.tc : Thread Cert.Reference2Ideal.nD Cert.Reference2Ideal.τ).loc Cert.Reference2Ideal.main_v94) = v2 c
          ∧ r.2.mem ((c.tc : Thread Cert.Reference2Ideal.nD Cert.Reference2Ideal.τ).loc Cert.Reference2Ideal.main_v98) = v3 c
          ∧ r.2.mem ((c.tc : Thread Cert.Reference2Ideal.nD Cert.Reference2Ideal.τ).loc Cert.Reference2Ideal.main_v100) = v4 c
          ∧ r.2.mem ((c.tc : Thread Cert.Reference2Ideal.nD Cert.Reference2Ideal.τ).loc Cert.Reference2Ideal.main_v101) = v5 c
          ∧ r.2.mem ((c.tc : Thread Cert.Reference2Ideal.nD Cert.Reference2Ideal.τ).loc Cert.Reference2Ideal.main_v103) = v6 c
          ∧ r.2.mem ((c.tc : Thread Cert.Reference2Ideal.nD Cert.Reference2Ideal.τ).loc Cert.Reference2Ideal.main_v105) = v7 c
          ∧ r.2.mem ((c.tc : Thread Cert.Reference2Ideal.nD Cert.Reference2Ideal.τ).loc Cert.Reference2Ideal.main_v107) = v8 c
          ∧ r.2.mem ((c.tc : Thread Cert.Reference2Ideal.nD Cert.Reference2Ideal.τ).loc Cert.Reference2Ideal.main_v109) = v9 c
          ∧ r.2.mem ((c.tc : Thread Cert.Reference2Ideal.nD Cert.Reference2Ideal.τ).loc Cert.Reference2Ideal.main_v111) = v10 c
          ∧ r.2.mem ((c.tc : Thread Cert.Reference2Ideal.nD Cert.Reference2Ideal.τ).loc Cert.Reference2Ideal.main_v113) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S8x2064x8x64 : Shape := ⟨4, ![8, 2064, 8, 64]⟩
abbrev S_ : Shape := ⟨0, ![]⟩
abbrev S8x2176x8x64 : Shape := ⟨4, ![8, 2176, 8, 64]⟩
abbrev S8x2176x512 : Shape := ⟨3, ![8, 2176, 512]⟩
abbrev S1x128x512 : Shape := ⟨3, ![1, 128, 512]⟩
abbrev S1x2176x512 : Shape := ⟨3, ![1, 2176, 512]⟩
abbrev S128x512 : Shape := ⟨2, ![128, 512]⟩
abbrev S128x128 : Shape := ⟨2, ![128, 128]⟩
abbrev S256x128 : Shape := ⟨2, ![256, 128]⟩
abbrev S256x256 : Shape := ⟨2, ![256, 256]⟩
abbrev S512x256 : Shape := ⟨2, ![512, 256]⟩
abbrev S128x1 : Shape := ⟨2, ![128, 1]⟩
abbrev S128x256 : Shape := ⟨2, ![128, 256]⟩
abbrev S1x256x128 : Shape := ⟨3, ![1, 256, 128]⟩
abbrev S1024x256 : Shape := ⟨2, ![1024, 256]⟩
abbrev S1024x512 : Shape := ⟨2, ![1024, 512]⟩

abbrev nBuf : Space → Nat
  | .hbm => 22
  | .vmem => 8
  | .smem => 0
  | _ => 0

abbrev bufTy : (tb : Table) → Fin (tcTables nBuf tb) → BufTy
  | .hbm, ⟨0, _⟩ => ⟨S8x2064x8x64, .f32⟩
  | .hbm, ⟨1, _⟩ => ⟨S8x2064x8x64, .f32⟩
  | .hbm, ⟨2, _⟩ => ⟨S8x2064x8x64, .f32⟩
  | .hbm, ⟨3, _⟩ => ⟨S_, .i32⟩
  | .hbm, ⟨4, _⟩ => ⟨S_, .f32⟩
  | .hbm, ⟨5, _⟩ => ⟨S8x2176x8x64, .f32⟩
  | .hbm, ⟨6, _⟩ => ⟨S8x2176x512, .f32⟩
  | .hbm, ⟨7, _⟩ => ⟨S_, .f32⟩
  | .hbm, ⟨8, _⟩ => ⟨S8x2176x512, .f32⟩
  | .hbm, ⟨9, _⟩ => ⟨S8x2176x512, .f32⟩
  | .hbm, ⟨10, _⟩ => ⟨S8x2176x512, .bf16⟩
  | .hbm, ⟨11, _⟩ => ⟨S_, .i32⟩
  | .hbm, ⟨12, _⟩ => ⟨S_, .f32⟩
  | .hbm, ⟨13, _⟩ => ⟨S8x2176x8x64, .f32⟩
  | .hbm, ⟨14, _⟩ => ⟨S8x2176x512, .f32⟩
  | .hbm, ⟨15, _⟩ => ⟨S8x2176x512, .bf16⟩
  | .hbm, ⟨16, _⟩ => ⟨S_, .i32⟩
  | .hbm, ⟨17, _⟩ => ⟨S_, .f32⟩
  | .hbm, ⟨18, _⟩ => ⟨S8x2176x8x64, .f32⟩
  | .hbm, ⟨19, _⟩ => ⟨S8x2176x512, .f32⟩
  | .hbm, ⟨20, _⟩ => ⟨S8x2176x512, .bf16⟩
  | .hbm, ⟨21, _⟩ => ⟨S8x2176x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2176x512, .bf16⟩
  | .local _ .vmem, ⟨3, _⟩ => ⟨S1x2176x512, .bf16⟩
  | .local _ .vmem, ⟨4, _⟩ => ⟨S1x2176x512, .bf16⟩
  | .local _ .vmem, ⟨5, _⟩ => ⟨S1x2176x512, .bf16⟩
  | .local _ .vmem, ⟨6, _⟩ => ⟨S1x128x512, .bf16⟩
  | .local _ .vmem, ⟨7, _⟩ => ⟨S1x128x512, .bf16⟩
  | _, _ => ⟨S8x2064x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def k0_mult1 (i : grid0.Coords) : BitVec 32 :=
  let arg1 : BitVec 32 := BitVec.ofNat 32 (i 1).val
  let c128_i32 : BitVec 32 := 128#32
  let v271 : BitVec 32 := Scalar.muli arg1 c128_i32
  let c0_i32_86 : BitVec 32 := 0#32
  let v273 : BitVec 1 := Scalar.cmpi .sgt v271 c0_i32_86
  let v274 : BitVec 32 := Scalar.extui v273
  let c0_i32_87 : BitVec 32 := 0#32
  let v275 : BitVec 1 := Scalar.cmpi .slt v271 c0_i32_87
  let v276 : BitVec 32 := Scalar.extui v275
  let v277 : BitVec 32 := Scalar.subi v274 v276
  let c256_i32 : BitVec 32 := 256#32
  let c0_i32_88 : BitVec 32 := 0#32
  let v278 : BitVec 1 := Scalar.cmpi .sgt c256_i32 c0_i32_88
  let v279 : BitVec 32 := Scalar.extui v278
  let c0_i32_89 : BitVec 32 := 0#32
  let v280 : BitVec 1 := Scalar.cmpi .slt c256_i32 c0_i32_89
  let v281 : BitVec 32 := Scalar.extui v280
  let v282 : BitVec 32 := Scalar.subi v279 v281
  let v283 : BitVec 1 := Scalar.cmpi .ne v277 v282
  let v284 : BitVec 32 := Scalar.remsi v271 c256_i32
  let c0_i32_90 : BitVec 32 := 0#32
  let v285 : BitVec 1 := Scalar.cmpi .ne v284 c0_i32_90
  let v286 : BitVec 1 := Scalar.andi v283 v285
  let v272 : BitVec 32 := Scalar.divsi v271 c256_i32
  let c1_i32_91 : BitVec 32 := 1#32
  let v287 : BitVec 32 := Scalar.subi v272 c1_i32_91
  let v288 : BitVec 32 := Scalar.select v286 v287 v272
  let c256_i32_92 : BitVec 32 := 256#32
  let v289 : BitVec 32 := Scalar.muli v288 c256_i32_92
  let c1920_i32 : BitVec 32 := 1920#32
  let v290 : BitVec 32 := Scalar.minsi v289 c1920_i32
  v290
def k0_off1 (i : grid0.Coords) : Fin 3 → Nat :=
  let c0_94 : Index := 0#32
  let arg1 : BitVec 32 := BitVec.ofNat 32 (i 1).val
  let c128_i32 : BitVec 32 := 128#32
  let v271 : BitVec 32 := Scalar.muli arg1 c128_i32
  let c0_i32_86 : BitVec 32 := 0#32
  let v273 : BitVec 1 := Scalar.cmpi .sgt v271 c0_i32_86
  let v274 : BitVec 32 := Scalar.extui v273
  let c0_i32_87 : BitVec 32 := 0#32
  let v275 : BitVec 1 := Scalar.cmpi .slt v271 c0_i32_87
  let v276 : BitVec 32 := Scalar.extui v275
  let v277 : BitVec 32 := Scalar.subi v274 v276
  let c256_i32 : BitVec 32 := 256#32
  let c0_i32_88 : BitVec 32 := 0#32
  let v278 : BitVec 1 := Scalar.cmpi .sgt c256_i32 c0_i32_88
  let v279 : BitVec 32 := Scalar.extui v278
  let c0_i32_89 : BitVec 32 := 0#32
  let v280 : BitVec 1 := Scalar.cmpi .slt c256_i32 c0_i32_89
  let v281 : BitVec 32 := Scalar.extui v280
  let v282 : BitVec 32 := Scalar.subi v279 v281
  let v283 : BitVec 1 := Scalar.cmpi .ne v277 v282
  let v284 : BitVec 32 := Scalar.remsi v271 c256_i32
  let c0_i32_90 : BitVec 32 := 0#32
  let v285 : BitVec 1 := Scalar.cmpi .ne v284 c0_i32_90
  let v286 : BitVec 1 := Scalar.andi v283 v285
  let v272 : BitVec 32 := Scalar.divsi v271 c256_i32
  let c1_i32_91 : BitVec 32 := 1#32
  let v287 : BitVec 32 := Scalar.subi v272 c1_i32_91
  let v288 : BitVec 32 := Scalar.select v286 v287 v272
  let c256_i32_92 : BitVec 32 := 256#32
  let v289 : BitVec 32 := Scalar.muli v288 c256_i32_92
  let c1920_i32 : BitVec 32 := 1920#32
  let v290 : BitVec 32 := Scalar.minsi v289 c1920_i32
  let v291 : BitVec 32 := v290
  let v303 : Index := Scalar.indexCast v291
  let c0_95 : Index := 0#32
  ![0, v303.toNat, 0]
def k0_off2 (i : grid0.Coords) : Fin 3 → Nat :=
  let c0_97 : Index := 0#32
  let arg1 : BitVec 32 := BitVec.ofNat 32 (i 1).val
  let c128_i32 : BitVec 32 := 128#32
  let v271 : BitVec 32 := Scalar.muli arg1 c128_i32
  let c0_i32_86 : BitVec 32 := 0#32
  let v273 : BitVec 1 := Scalar.cmpi .sgt v271 c0_i32_86
  let v274 : BitVec 32 := Scalar.extui v273
  let c0_i32_87 : BitVec 32 := 0#32
  let v275 : BitVec 1 := Scalar.cmpi .slt v271 c0_i32_87
  let v276 : BitVec 32 := Scalar.extui v275
  let v277 : BitVec 32 := Scalar.subi v274 v276
  let c256_i32 : BitVec 32 := 256#32
  let c0_i32_88 : BitVec 32 := 0#32
  let v278 : BitVec 1 := Scalar.cmpi .sgt c256_i32 c0_i32_88
  let v279 : BitVec 32 := Scalar.extui v278
  let c0_i32_89 : BitVec 32 := 0#32
  let v280 : BitVec 1 := Scalar.cmpi .slt c256_i32 c0_i32_89
  let v281 : BitVec 32 := Scalar.extui v280
  let v282 : BitVec 32 := Scalar.subi v279 v281
  let v283 : BitVec 1 := Scalar.cmpi .ne v277 v282
  let v284 : BitVec 32 := Scalar.remsi v271 c256_i32
  let c0_i32_90 : BitVec 32 := 0#32
  let v285 : BitVec 1 := Scalar.cmpi .ne v284 c0_i32_90
  let v286 : BitVec 1 := Scalar.andi v283 v285
  let v272 : BitVec 32 := Scalar.divsi v271 c256_i32
  let c1_i32_91 : BitVec 32 := 1#32
  let v287 : BitVec 32 := Scalar.subi v272 c1_i32_91
  let v288 : BitVec 32 := Scalar.select v286 v287 v272
  let c256_i32_92 : BitVec 32 := 256#32
  let v289 : BitVec 32 := Scalar.muli v288 c256_i32_92
  let c1920_i32 : BitVec 32 := 1920#32
  let v290 : BitVec 32 := Scalar.minsi v289 c1920_i32
  let v291 : BitVec 32 := v290
  let v309 : Index := Scalar.indexCast v291
  let c128 : Index := 128#32
  ![0, v309.toNat, 128]
def k0_off3 (i : grid0.Coords) : Fin 3 → Nat :=
  let c0_99 : Index := 0#32
  let arg1 : BitVec 32 := BitVec.ofNat 32 (i 1).val
  let c128_i32 : BitVec 32 := 128#32
  let v271 : BitVec 32 := Scalar.muli arg1 c128_i32
  let c0_i32_86 : BitVec 32 := 0#32
  let v273 : BitVec 1 := Scalar.cmpi .sgt v271 c0_i32_86
  let v274 : BitVec 32 := Scalar.extui v273
  let c0_i32_87 : BitVec 32 := 0#32
  let v275 : BitVec 1 := Scalar.cmpi .slt v271 c0_i32_87
  let v276 : BitVec 32 := Scalar.extui v275
  let v277 : BitVec 32 := Scalar.subi v274 v276
  let c256_i32 : BitVec 32 := 256#32
  let c0_i32_88 : BitVec 32 := 0#32
  let v278 : BitVec 1 := Scalar.cmpi .sgt c256_i32 c0_i32_88
  let v279 : BitVec 32 := Scalar.extui v278
  let c0_i32_89 : BitVec 32 := 0#32
  let v280 : BitVec 1 := Scalar.cmpi .slt c256_i32 c0_i32_89
  let v281 : BitVec 32 := Scalar.extui v280
  let v282 : BitVec 32 := Scalar.subi v279 v281
  let v283 : BitVec 1 := Scalar.cmpi .ne v277 v282
  let v284 : BitVec 32 := Scalar.remsi v271 c256_i32
  let c0_i32_90 : BitVec 32 := 0#32
  let v285 : BitVec 1 := Scalar.cmpi .ne v284 c0_i32_90
  let v286 : BitVec 1 := Scalar.andi v283 v285
  let v272 : BitVec 32 := Scalar.divsi v271 c256_i32
  let c1_i32_91 : BitVec 32 := 1#32
  let v287 : BitVec 32 := Scalar.subi v272 c1_i32_91
  let v288 : BitVec 32 := Scalar.select v286 v287 v272
  let c256_i32_92 : BitVec 32 := 256#32
  let v289 : BitVec 32 := Scalar.muli v288 c256_i32_92
  let c1920_i32 : BitVec 32 := 1920#32
  let v290 : BitVec 32 := Scalar.minsi v289 c1920_i32
  let v291 : BitVec 32 := v290
  let v315 : Index := Scalar.indexCast v291
  let c256 : Index := 256#32
  ![0, v315.toNat, 256]
def k0_off4 (i : grid0.Coords) : Fin 3 → Nat :=
  let c0_101 : Index := 0#32
  let arg1 : BitVec 32 := BitVec.ofNat 32 (i 1).val
  let c128_i32 : BitVec 32 := 128#32
  let v271 : BitVec 32 := Scalar.muli arg1 c128_i32
  let c0_i32_86 : BitVec 32 := 0#32
  let v273 : BitVec 1 := Scalar.cmpi .sgt v271 c0_i32_86
  let v274 : BitVec 32 := Scalar.extui v273
  let c0_i32_87 : BitVec 32 := 0#32
  let v275 : BitVec 1 := Scalar.cmpi .slt v271 c0_i32_87
  let v276 : BitVec 32 := Scalar.extui v275
  let v277 : BitVec 32 := Scalar.subi v274 v276
  let c256_i32 : BitVec 32 := 256#32
  let c0_i32_88 : BitVec 32 := 0#32
  let v278 : BitVec 1 := Scalar.cmpi .sgt c256_i32 c0_i32_88
  let v279 : BitVec 32 := Scalar.extui v278
  let c0_i32_89 : BitVec 32 := 0#32
  let v280 : BitVec 1 := Scalar.cmpi .slt c256_i32 c0_i32_89
  let v281 : BitVec 32 := Scalar.extui v280
  let v282 : BitVec 32 := Scalar.subi v279 v281
  let v283 : BitVec 1 := Scalar.cmpi .ne v277 v282
  let v284 : BitVec 32 := Scalar.remsi v271 c256_i32
  let c0_i32_90 : BitVec 32 := 0#32
  let v285 : BitVec 1 := Scalar.cmpi .ne v284 c0_i32_90
  let v286 : BitVec 1 := Scalar.andi v283 v285
  let v272 : BitVec 32 := Scalar.divsi v271 c256_i32
  let c1_i32_91 : BitVec 32 := 1#32
  let v287 : BitVec 32 := Scalar.subi v272 c1_i32_91
  let v288 : BitVec 32 := Scalar.select v286 v287 v272
  let c256_i32_92 : BitVec 32 := 256#32
  let v289 : BitVec 32 := Scalar.muli v288 c256_i32_92
  let c1920_i32 : BitVec 32 := 1920#32
  let v290 : BitVec 32 := Scalar.minsi v289 c1920_i32
  let v291 : BitVec 32 := v290
  let v321 : Index := Scalar.indexCast v291
  let c384 : Index := 384#32
  ![0, v321.toNat, 384]
@[reducible] def k0_t1_loop (i : grid0.Coords) : Scf.Loop 32 :=
  let c0_i32_172 : BitVec 32 := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let c1_i32_174 : BitVec 32 := 1#32
  ⟨c0_i32_172, v608, c1_i32_174⟩
def k0_mult2 (i : grid0.Coords) (k0_t1 : Fin (k0_t1_loop i).trips) : BitVec 32 :=
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let c1_i32_174 : BitVec 32 := 1#32
  let arg6 : BitVec 32 := Scf.iv c0_i32_172 c1_i32_174 k0_t1
  let v630 : BitVec 32 := Scalar.subi v629 arg6
  let c256_i32_184 : BitVec 32 := 256#32
  let v631 : BitVec 32 := Scalar.muli v630 c256_i32_184
  v631
def k0_off5 (i : grid0.Coords) (k0_t1 : Fin (k0_t1_loop i).trips) : Fin 3 → Nat :=
  let c0_185 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let c1_i32_174 : BitVec 32 := 1#32
  let arg6 : BitVec 32 := Scf.iv c0_i32_172 c1_i32_174 k0_t1
  let v630 : BitVec 32 := Scalar.subi v629 arg6
  let c256_i32_184 : BitVec 32 := 256#32
  let v631 : BitVec 32 := Scalar.muli v630 c256_i32_184
  let v632 : BitVec 32 := v631
  let v633 : Index := Scalar.indexCast v632
  let c0_186 : Index := 0#32
  ![0, v633.toNat, 0]
def k0_off6 (i : grid0.Coords) (k0_t1 : Fin (k0_t1_loop i).trips) : Fin 3 → Nat :=
  let c0_188 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let c1_i32_174 : BitVec 32 := 1#32
  let arg6 : BitVec 32 := Scf.iv c0_i32_172 c1_i32_174 k0_t1
  let v630 : BitVec 32 := Scalar.subi v629 arg6
  let c256_i32_184 : BitVec 32 := 256#32
  let v631 : BitVec 32 := Scalar.muli v630 c256_i32_184
  let v632 : BitVec 32 := v631
  let v639 : Index := Scalar.indexCast v632
  let c128_189 : Index := 128#32
  ![0, v639.toNat, 128]
def k0_off7 (i : grid0.Coords) (k0_t1 : Fin (k0_t1_loop i).trips) : Fin 3 → Nat :=
  let c0_191 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let c1_i32_174 : BitVec 32 := 1#32
  let arg6 : BitVec 32 := Scf.iv c0_i32_172 c1_i32_174 k0_t1
  let v630 : BitVec 32 := Scalar.subi v629 arg6
  let c256_i32_184 : BitVec 32 := 256#32
  let v631 : BitVec 32 := Scalar.muli v630 c256_i32_184
  let v632 : BitVec 32 := v631
  let v645 : Index := Scalar.indexCast v632
  let c256_192 : Index := 256#32
  ![0, v645.toNat, 256]
def k0_off8 (i : grid0.Coords) (k0_t1 : Fin (k0_t1_loop i).trips) : Fin 3 → Nat :=
  let c0_194 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let c1_i32_174 : BitVec 32 := 1#32
  let arg6 : BitVec 32 := Scf.iv c0_i32_172 c1_i32_174 k0_t1
  let v630 : BitVec 32 := Scalar.subi v629 arg6
  let c256_i32_184 : BitVec 32 := 256#32
  let v631 : BitVec 32 := Scalar.muli v630 c256_i32_184
  let v632 : BitVec 32 := v631
  let v651 : Index := Scalar.indexCast v632
  let c384_195 : Index := 384#32
  ![0, v651.toNat, 384]
@[reducible] def k0_t2_loop (i : grid0.Coords) : Scf.Loop 32 :=
  let c0_i32_172 : BitVec 32 := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let v605 : BitVec 32 := Scalar.addi c0_i32_172 v604
  let c1_i32_175 : BitVec 32 := 1#32
  ⟨v608, v605, c1_i32_175⟩
def k0_mult3 (i : grid0.Coords) (k0_t2 : Fin (k0_t2_loop i).trips) : BitVec 32 :=
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let c1_i32_175 : BitVec 32 := 1#32
  let arg6 : BitVec 32 := Scf.iv v608 c1_i32_175 k0_t2
  let v630 : BitVec 32 := Scalar.subi v629 arg6
  let c256_i32_184 : BitVec 32 := 256#32
  let v631 : BitVec 32 := Scalar.muli v630 c256_i32_184
  v631
def k0_off9 (i : grid0.Coords) (k0_t2 : Fin (k0_t2_loop i).trips) : Fin 3 → Nat :=
  let c0_185 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let c1_i32_175 : BitVec 32 := 1#32
  let arg6 : BitVec 32 := Scf.iv v608 c1_i32_175 k0_t2
  let v630 : BitVec 32 := Scalar.subi v629 arg6
  let c256_i32_184 : BitVec 32 := 256#32
  let v631 : BitVec 32 := Scalar.muli v630 c256_i32_184
  let v632 : BitVec 32 := v631
  let v633 : Index := Scalar.indexCast v632
  let c0_186 : Index := 0#32
  ![0, v633.toNat, 0]
def k0_off10 (i : grid0.Coords) (k0_t2 : Fin (k0_t2_loop i).trips) : Fin 3 → Nat :=
  let c0_188 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let c1_i32_175 : BitVec 32 := 1#32
  let arg6 : BitVec 32 := Scf.iv v608 c1_i32_175 k0_t2
  let v630 : BitVec 32 := Scalar.subi v629 arg6
  let c256_i32_184 : BitVec 32 := 256#32
  let v631 : BitVec 32 := Scalar.muli v630 c256_i32_184
  let v632 : BitVec 32 := v631
  let v639 : Index := Scalar.indexCast v632
  let c128_189 : Index := 128#32
  ![0, v639.toNat, 128]
def k0_off11 (i : grid0.Coords) (k0_t2 : Fin (k0_t2_loop i).trips) : Fin 3 → Nat :=
  let c0_191 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let c1_i32_175 : BitVec 32 := 1#32
  let arg6 : BitVec 32 := Scf.iv v608 c1_i32_175 k0_t2
  let v630 : BitVec 32 := Scalar.subi v629 arg6
  let c256_i32_184 : BitVec 32 := 256#32
  let v631 : BitVec 32 := Scalar.muli v630 c256_i32_184
  let v632 : BitVec 32 := v631
  let v645 : Index := Scalar.indexCast v632
  let c256_192 : Index := 256#32
  ![0, v645.toNat, 256]
def k0_off12 (i : grid0.Coords) (k0_t2 : Fin (k0_t2_loop i).trips) : Fin 3 → Nat :=
  let c0_194 : Index := 0#32
  let arg1 : BitVec 32 := BitVec.ofNat 32 (i 1).val
  let c128_i32_164 : BitVec 32 := 128#32
  let v586 : BitVec 32 := Scalar.muli arg1 c128_i32_164
  let c0_i32_166 : BitVec 32 := 0#32
  let v588 : BitVec 1 := Scalar.cmpi .sgt v586 c0_i32_166
  let v589 : BitVec 32 := Scalar.extui v588
  let c0_i32_167 : BitVec 32 := 0#32
  let v590 : BitVec 1 := Scalar.cmpi .slt v586 c0_i32_167
  let v591 : BitVec 32 := Scalar.extui v590
  let v592 : BitVec 32 := Scalar.subi v589 v591
  let c256_i32_165 : BitVec 32 := 256#32
  let c0_i32_168 : BitVec 32 := 0#32
  let v593 : BitVec 1 := Scalar.cmpi .sgt c256_i32_165 c0_i32_168
  let v594 : BitVec 32 := Scalar.extui v593
  let c0_i32_169 : BitVec 32 := 0#32
  let v595 : BitVec 1 := Scalar.cmpi .slt c256_i32_165 c0_i32_169
  let v596 : BitVec 32 := Scalar.extui v595
  let v597 : BitVec 32 := Scalar.subi v594 v596
  let v598 : BitVec 1 := Scalar.cmpi .ne v592 v597
  let v599 : BitVec 32 := Scalar.remsi v586 c256_i32_165
  let c0_i32_170 : BitVec 32 := 0#32
  let v600 : BitVec 1 := Scalar.cmpi .ne v599 c0_i32_170
  let v601 : BitVec 1 := Scalar.andi v598 v600
  let v587 : BitVec 32 := Scalar.divsi v586 c256_i32_165
  let c1_i32_171 : BitVec 32 := 1#32
  let v602 : BitVec 32 := Scalar.subi v587 c1_i32_171
  let v603 : BitVec 32 := Scalar.select v601 v602 v587
  let c1_i32_183 : BitVec 32 := 1#32
  let v629 : BitVec 32 := Scalar.subi v603 c1_i32_183
  let c0_i32_172 : BitVec 32 := 0#32
  let v604 : BitVec 32 := Scalar.subi v603 c0_i32_172
  let c1_i32_173 : BitVec 32 := 1#32
  let v606 : BitVec 32 := Scalar.divsi v604 c1_i32_173
  let v607 : BitVec 32 := Scalar.muli v606 c1_i32_173
  let v608 : BitVec 32 := Scalar.addi c0_i32_172 v607
  let c1_i32_175 : BitVec 32 := 1#32
  let arg6 : BitVec 32 := Scf.iv v608 c1_i32_175 k0_t2
  let v630 : BitVec 32 := Scalar.subi v629 arg6
  let c256_i32_184 : BitVec 32 := 256#32
  let v631 : BitVec 32 := Scalar.muli v630 c256_i32_184
  let v632 : BitVec 32 := v631
  let v651 : Index := Scalar.indexCast v632
  let c384_195 : Index := 384#32
  ![0, v651.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2064x8x64 : Shape := ⟨4, ![8, 2064, 8, 64]⟩
abbrev S_ : Shape := ⟨0, ![]⟩
abbrev S8x2176x8x64 : Shape := ⟨4, ![8, 2176, 8, 64]⟩
abbrev S8x8x2176x2176 : Shape := ⟨4, ![8, 8, 2176, 2176]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x8x64x2176 : Shape := ⟨4, ![8, 8, 64, 2176]⟩
abbrev S8x2176x512 : Shape := ⟨3, ![8, 2176, 512]⟩

abbrev nBuf : Space → Nat
  | .hbm => 76
  | .vmem => 0
  | .smem => 0
  | _ => 0

abbrev bufTy : (tb : Table) → Fin (tcTables nBuf tb) → BufTy
  | .hbm, ⟨0, _⟩ => ⟨S8x2064x8x64, .f32⟩
  | .hbm, ⟨1, _⟩ => ⟨S8x2064x8x64, .f32⟩
  | .hbm, ⟨2, _⟩ => ⟨S8x2064x8x64, .f32⟩
  | .hbm, ⟨3, _⟩ => ⟨S_, .i32⟩
  | .hbm, ⟨4, _⟩ => ⟨S_, .f32⟩
  | .hbm, ⟨5, _⟩ => ⟨S8x2176x8x64, .f32⟩
  | .hbm, ⟨6, _⟩ => ⟨S_, .i32⟩
  | .hbm, ⟨7, _⟩ => ⟨S_, .f32⟩
  | .hbm, ⟨8, _⟩ => ⟨S8x2176x8x64, .f32⟩
  | .hbm, ⟨9, _⟩ => ⟨S_, .i32⟩
  | .hbm, ⟨10, _⟩ => ⟨S_, .f32⟩
  | .hbm, ⟨11, _⟩ => ⟨S8x2176x8x64, .f32⟩
  | .hbm, ⟨12, _⟩ => ⟨S8x8x2176x2176, .f32⟩
  | .hbm, ⟨13, _⟩ => ⟨S_, .f32⟩
  | .hbm, ⟨14, _⟩ => ⟨S8x8x2176x2176, .f32⟩
  | .hbm, ⟨15, _⟩ => ⟨S8x8x2176x2176, .f32⟩
  | .hbm, ⟨16, _⟩ => ⟨S2176, .i32⟩
  | .hbm, ⟨17, _⟩ => ⟨S2176, .i32⟩
  | .hbm, ⟨18, _⟩ => ⟨S1x2176, .i32⟩
  | .hbm, ⟨19, _⟩ => ⟨S2176x1, .i32⟩
  | .hbm, ⟨20, _⟩ => ⟨S2176x2176, .i32⟩
  | .hbm, ⟨21, _⟩ => ⟨S2176x2176, .i32⟩
  | .hbm, ⟨22, _⟩ => ⟨S2176x2176, .i1⟩
  | .hbm, ⟨23, _⟩ => ⟨S8x8x2176x2176, .f32⟩
  | .hbm, ⟨24, _⟩ => ⟨S8x8x2176x2176, .f32⟩
  | .hbm, ⟨25, _⟩ => ⟨S_, .f32⟩
  | .hbm, ⟨26, _⟩ => ⟨S8x8x2176x2176, .f32⟩
  | .hbm, ⟨27, _⟩ => ⟨S8x8x2176x2176, .f32⟩
  | .hbm, ⟨28, _⟩ => ⟨S8x8x2176x2176, .f32⟩
  | .hbm, ⟨29, _⟩ => ⟨S8x8x2176x2176, .f32⟩
  | .hbm, ⟨30, _⟩ => ⟨S8x8x2176x2176, .i1⟩
  | .hbm, ⟨31, _⟩ => ⟨S8x8x2176x2176, .f32⟩
  | .hbm, ⟨32, _⟩ => ⟨S8x8x2176x2176, .f32⟩
  | .hbm, ⟨33, _⟩ => ⟨S8x8x2176x2176, .f32⟩
  | .hbm, ⟨34, _⟩ => ⟨S8x8x2176x2176, .f32⟩
  | .hbm, ⟨35, _⟩ => ⟨S8x8x2176x2176, .f32⟩
  | .hbm, ⟨36, _⟩ => ⟨S8x8x2176x2176, .f32⟩
  | .hbm, ⟨37, _⟩ => ⟨S8x8x2176x2176, .f32⟩
  | .hbm, ⟨38, _⟩ => ⟨S8x8x2176x2176, .f32⟩
  | .hbm, ⟨39, _⟩ => ⟨S8x8x2176x2176, .f32⟩
  | .hbm, ⟨40, _⟩ => ⟨S_, .f32⟩
  | .hbm, ⟨41, _⟩ => ⟨S_, .f32⟩
  | .hbm, ⟨42, _⟩ => ⟨S8x8x2176x2176, .i1⟩
  | .hbm, ⟨43, _⟩ => ⟨S8x8x2176x2176, .f32⟩
  | .hbm, ⟨44, _⟩ => ⟨S8x8x2176x2176, .f32⟩
  | .hbm, ⟨45, _⟩ => ⟨S_, .f32⟩
  | .hbm, ⟨46, _⟩ => ⟨S_, .f32⟩
  | .hbm, ⟨47, _⟩ => ⟨S8x8x2176x2176, .f32⟩
  | .hbm, ⟨48, _⟩ => ⟨S8x8x2176x2176, .f32⟩
  | .hbm, ⟨49, _⟩ => ⟨S8x8x2176x2176, .f32⟩
  | .hbm, ⟨50, _⟩ => ⟨S_, .f32⟩
  | .hbm, ⟨51, _⟩ => ⟨S8x8x2176x2176, .f32⟩
  | .hbm, ⟨52, _⟩ => ⟨S8x8x2176x2176, .f32⟩
  | .hbm, ⟨53, _⟩ => ⟨S8x8x2176x2176, .f32⟩
  | .hbm, ⟨54, _⟩ => ⟨S8x8x2176x2176, .f32⟩
  | .hbm, ⟨55, _⟩ => ⟨S8x8x2176x2176, .i1⟩
  | .hbm, ⟨56, _⟩ => ⟨S8x8x2176x2176, .f32⟩
  | .hbm, ⟨57, _⟩ => ⟨S8x8x2176x2176, .f32⟩
  | .hbm, ⟨58, _⟩ => ⟨S8x8x2176x2176, .f32⟩
  | .hbm, ⟨59, _⟩ => ⟨S8x8x2176x2176, .f32⟩
  | .hbm, ⟨60, _⟩ => ⟨S8x8x2176x2176, .f32⟩
  | .hbm, ⟨61, _⟩ => ⟨S8x8x2176x2176, .f32⟩
  | .hbm, ⟨62, _⟩ => ⟨S8x8x2176x2176, .f32⟩
  | .hbm, ⟨63, _⟩ => ⟨S8x8x2176x2176, .f32⟩
  | .hbm, ⟨64, _⟩ => ⟨S8x8x2176x2176, .f32⟩
  | .hbm, ⟨65, _⟩ => ⟨S8x8x2176x2176, .f32⟩
  | .hbm, ⟨66, _⟩ => ⟨S8x8x2176x2176, .f32⟩
  | .hbm, ⟨67, _⟩ => ⟨S_, .f32⟩
  | .hbm, ⟨68, _⟩ => ⟨S_, .f32⟩
  | .hbm, ⟨69, _⟩ => ⟨S8x8x2176x2176, .i1⟩
  | .hbm, ⟨70, _⟩ => ⟨S8x8x2176x2176, .f32⟩
  | .hbm, ⟨71, _⟩ => ⟨S8x8x2176x2176, .f32⟩
  | .hbm, ⟨72, _⟩ => ⟨S8x8x64x2176, .f32⟩
  | .hbm, ⟨73, _⟩ => ⟨S8x2176x8x64, .f32⟩
  | .hbm, ⟨74, _⟩ => ⟨S8x2176x512, .f32⟩
  | .hbm, ⟨75, _⟩ => ⟨S8x2176x512, .bf16⟩
  | _, _ => ⟨S8x2064x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call3_v0 : Ref sig .tc := ⟨.hbm, 24, rfl⟩
abbrev main_call3_call0_cst : Ref sig .tc := ⟨.hbm, 25, rfl⟩
abbrev main_call3_call0_v0 : Ref sig .tc := ⟨.hbm, 26, rfl⟩
abbrev main_call3_call0_v1 : Ref sig .tc := ⟨.hbm, 27, rfl⟩
abbrev main_call3_call0_v2 : Ref sig .tc := ⟨.hbm, 28, rfl⟩
abbrev main_call3_call0_v3 : Ref sig .tc := ⟨.hbm, 29, rfl⟩
abbrev main_call3_call0_v4 : Ref sig .tc := ⟨.hbm, 30, rfl⟩
abbrev main_call3_call0_v5 : Ref sig .tc := ⟨.hbm, 31, rfl⟩
abbrev main_call3_call0_v6 : Ref sig .tc := ⟨.hbm, 32, rfl⟩
abbrev main_call3_call0_v7 : Ref sig .tc := ⟨.hbm, 33, rfl⟩
abbrev main_call3_call0_v8 : Ref sig .tc := ⟨.hbm, 34, rfl⟩
abbrev main_call3_call0_v9 : Ref sig .tc := ⟨.hbm, 35, rfl⟩
abbrev main_call3_call0_v10 : Ref sig .tc := ⟨.hbm, 36, rfl⟩
abbrev main_call3_call0_v11 : Ref sig .tc := ⟨.hbm, 37, rfl⟩
abbrev main_call3_v1 : Ref sig .tc := ⟨.hbm, 38, rfl⟩
abbrev main_v14 : Ref sig .tc := ⟨.hbm, 39, rfl⟩
abbrev main_cst_2 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_v15 : Ref sig .tc := ⟨.hbm, 44, rfl⟩
abbrev main_call5_cst : Ref sig .tc := ⟨.hbm, 45, rfl⟩
abbrev main_call5_v0 : Ref sig .tc := ⟨.hbm, 46, rfl⟩
abbrev main_v16 : Ref sig .tc := ⟨.hbm, 47, rfl⟩
abbrev main_v17 : Ref sig .tc := ⟨.hbm, 48, rfl⟩
abbrev main_call6_v0 : Ref sig .tc := ⟨.hbm, 49, rfl⟩
abbrev main_call6_call0_cst : Ref sig .tc := ⟨.hbm, 50, rfl⟩
abbrev main_call6_call0_v0 : Ref sig .tc := ⟨.hbm, 51, rfl⟩
abbrev main_call6_call0_v1 : Ref sig .tc := ⟨.hbm, 52, rfl⟩
abbrev main_call6_call0_v2 : Ref sig .tc := ⟨.hbm, 53, rfl⟩
abbrev main_call6_call0_v3 : Ref sig .tc := ⟨.hbm, 54, rfl⟩
abbrev main_call6_call0_v4 : Ref sig .tc := ⟨.hbm, 55, rfl⟩
abbrev main_call6_call0_v5 : Ref sig .tc := ⟨.hbm, 56, rfl⟩
abbrev main_call6_call0_v6 : Ref sig .tc := ⟨.hbm, 57, rfl⟩
abbrev main_call6_call0_v7 : Ref sig .tc := ⟨.hbm, 58, rfl⟩
abbrev main_call6_call0_v8 : Ref sig .tc := ⟨.hbm, 59, rfl⟩
abbrev main_call6_call0_v9 : Ref sig .tc := ⟨.hbm, 60, rfl⟩
abbrev main_call6_call0_v10 : Ref sig .tc := ⟨.hbm, 61, rfl⟩
abbrev main_call6_call0_v11 : Ref sig .tc := ⟨.hbm, 62, rfl⟩
abbrev main_call6_v1 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_3 : Ref sig .tc := ⟨.hbm, 67, rfl⟩
abbrev main_call7_v0 : Ref sig .tc := ⟨.hbm, 68, rfl⟩
abbrev main_call7_v1 : Ref sig .tc := ⟨.hbm, 69, rfl⟩
abbrev main_call7_v2 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩

abbrev nD : Nat := 1
abbrev τ : Topo := Topo.v7x

variable {F : FTy → Type} [FloatOps F]
-- ==== Kernel2.lean ====
abbrev S8x2064x1024 : Shape := ⟨3, ![8, 2064, 1024]⟩
abbrev S1024x5120 : Shape := ⟨2, ![1024, 5120]⟩
abbrev S2048 : Shape := ⟨1, ![2048]⟩
abbrev S_ : Shape := ⟨0, ![]⟩
abbrev S8x2176x1024 : Shape := ⟨3, ![8, 2176, 1024]⟩
abbrev S17408x1024 : Shape := ⟨2, ![17408, 1024]⟩
abbrev S2176 : Shape := ⟨1, ![2176]⟩
abbrev S32 : Shape := ⟨1, ![32]⟩
abbrev S2176x1 : Shape := ⟨2, ![2176, 1]⟩
abbrev S1x32 : Shape := ⟨2, ![1, 32]⟩
abbrev S2176x32 : Shape := ⟨2, ![2176, 32]⟩
abbrev S2176x64 : Shape := ⟨2, ![2176, 64]⟩
abbrev S1x2176x1x64 : Shape := ⟨4, ![1, 2176, 1, 64]⟩
abbrev S1x2176x2x64 : Shape := ⟨4, ![1, 2176, 2, 64]⟩
abbrev S2176x128 : Shape := ⟨2, ![2176, 128]⟩
abbrev S1x2048 : Shape := ⟨2, ![1, 2048]⟩
abbrev S17408x512 : Shape := ⟨2, ![17408, 512]⟩
abbrev S8x2064x512 : Shape := ⟨3, ![8, 2064, 512]⟩
abbrev S544x1024 : Shape := ⟨2, ![544, 1024]⟩
abbrev S544x128 : Shape := ⟨2, ![544, 128]⟩
abbrev S544x512 : Shape := ⟨2, ![544, 512]⟩
abbrev S1x544x512 : Shape := ⟨3, ![1, 544, 512]⟩
abbrev S1024x512 : Shape := ⟨2, ![1024, 512]⟩
abbrev S1024x1024 : Shape := ⟨2, ![1024, 1024]⟩
abbrev S1x1024 : Shape := ⟨2, ![1, 1024]⟩

abbrev nBuf : Space → Nat
  | .hbm => 47
  | .vmem => 32
  | .smem => 0
  | _ => 0

abbrev bufTy : (tb : Table) → Fin (tcTables nBuf tb) → BufTy
  | .hbm, ⟨0, _⟩ => ⟨S8x2064x1024, .f32⟩
  | .hbm, ⟨1, _⟩ => ⟨S1024x5120, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S8x2176x1024, .f32⟩
  | .hbm, ⟨6, _⟩ => ⟨S17408x1024, .f32⟩
  | .hbm, ⟨7, _⟩ => ⟨S2176, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2176x1, .f32⟩
  | .hbm, ⟨17, _⟩ => ⟨S1x32, .f32⟩
  | .hbm, ⟨18, _⟩ => ⟨S2176x32, .f32⟩
  | .hbm, ⟨19, _⟩ => ⟨S2176x32, .f32⟩
  | .hbm, ⟨20, _⟩ => ⟨S2176x32, .f32⟩
  | .hbm, ⟨21, _⟩ => ⟨S2176x32, .f32⟩
  | .hbm, ⟨22, _⟩ => ⟨S2176x32, .f32⟩
  | .hbm, ⟨23, _⟩ => ⟨S2176x64, .f32⟩
  | .hbm, ⟨24, _⟩ => ⟨S1x2176x1x64, .f32⟩
  | .hbm, ⟨25, _⟩ => ⟨S1x2176x2x64, .f32⟩
  | .hbm, ⟨26, _⟩ => ⟨S2176x128, .f32⟩
  | .hbm, ⟨27, _⟩ => ⟨S2176x32, .f32⟩
  | .hbm, ⟨28, _⟩ => ⟨S2176x64, .f32⟩
  | .hbm, ⟨29, _⟩ => ⟨S1x2176x1x64, .f32⟩
  | .hbm, ⟨30, _⟩ => ⟨S1x2176x2x64, .f32⟩
  | .hbm, ⟨31, _⟩ => ⟨S2176x128, .f32⟩
  | .hbm, ⟨32, _⟩ => ⟨S17408x1024, .bf16⟩
  | .hbm, ⟨33, _⟩ => ⟨S1024x5120, .bf16⟩
  | .hbm, ⟨34, _⟩ => ⟨S1x2048, .f32⟩
  | .hbm, ⟨35, _⟩ => ⟨S17408x512, .bf16⟩
  | .hbm, ⟨36, _⟩ => ⟨S8x2064x512, .f32⟩
  | .hbm, ⟨37, _⟩ => ⟨S8x2064x512, .f32⟩
  | .hbm, ⟨38, _⟩ => ⟨S17408x512, .bf16⟩
  | .hbm, ⟨39, _⟩ => ⟨S8x2064x512, .f32⟩
  | .hbm, ⟨40, _⟩ => ⟨S8x2064x512, .f32⟩
  | .hbm, ⟨41, _⟩ => ⟨S17408x512, .bf16⟩
  | .hbm, ⟨42, _⟩ => ⟨S17408x512, .bf16⟩
  | .hbm, ⟨43, _⟩ => ⟨S17408x512, .bf16⟩
  | .hbm, ⟨44, _⟩ => ⟨S17408x512, .bf16⟩
  | .hbm, ⟨45, _⟩ => ⟨S17408x1024, .bf16⟩
  | .hbm, ⟨46, _⟩ => ⟨S17408x1024, .bf16⟩
  | .local _ .vmem, ⟨0, _⟩ => ⟨S544x1024, .bf16⟩
  | .local _ .vmem, ⟨1, _⟩ => ⟨S544x1024, .bf16⟩
  | .local _ .vmem, ⟨2, _⟩ => ⟨S1024x5120, .bf16⟩
  | .local _ .vmem, ⟨3, _⟩ => ⟨S1x2048, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x512, .bf16⟩
  | .local _ .vmem, ⟨9, _⟩ => ⟨S544x512, .bf16⟩
  | .local _ .vmem, ⟨10, _⟩ => ⟨S1x544x512, .f32⟩
  | .local _ .vmem, ⟨11, _⟩ => ⟨S1x544x512, .f32⟩
  | .local _ .vmem, ⟨12, _⟩ => ⟨S1x544x512, .f32⟩
  | .local _ .vmem, ⟨13, _⟩ => ⟨S1x544x512, .f32⟩
  | .local _ .vmem, ⟨14, _⟩ => ⟨S544x512, .bf16⟩
  | .local _ .vmem, ⟨15, _⟩ => ⟨S544x512, .bf16⟩
  | .local _ .vmem, ⟨16, _⟩ => ⟨S1x544x512, .f32⟩
  | .local _ .vmem, ⟨17, _⟩ => ⟨S1x544x512, .f32⟩
  | .local _ .vmem, ⟨18, _⟩ => ⟨S1x544x512, .f32⟩
  | .local _ .vmem, ⟨19, _⟩ => ⟨S1x544x512, .f32⟩
  | .local _ .vmem, ⟨20, _⟩ => ⟨S544x512, .bf16⟩
  | .local _ .vmem, ⟨21, _⟩ => ⟨S544x512, .bf16⟩
  | .local _ .vmem, ⟨22, _⟩ => ⟨S544x512, .bf16⟩
  | .local _ .vmem, ⟨23, _⟩ => ⟨S544x512, .bf16⟩
  | .local _ .vmem, ⟨24, _⟩ => ⟨S544x512, .bf16⟩
  | .local _ .vmem, ⟨25, _⟩ => ⟨S544x512, .bf16⟩
  | .local _ .vmem, ⟨26, _⟩ => ⟨S544x512, .bf16⟩
  | .local _ .vmem, ⟨27, _⟩ => ⟨S544x512, .bf16⟩
  | .local _ .vmem, ⟨28, _⟩ => ⟨S544x1024, .bf16⟩
  | .local _ .vmem, ⟨29, _⟩ => ⟨S544x1024, .bf16⟩
  | .local _ .vmem, ⟨30, _⟩ => ⟨S544x1024, .bf16⟩
  | .local _ .vmem, ⟨31, _⟩ => ⟨S544x1024, .bf16⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev main_v28_4 : Ref sig .tc := ⟨.hbm, 39, rfl⟩
abbrev main_v28_5 : Ref sig .tc := ⟨.hbm, 40, rfl⟩
abbrev main_v28_6 : Ref sig .tc := ⟨.hbm, 41, rfl⟩
abbrev main_v28_7 : Ref sig .tc := ⟨.hbm, 42, rfl⟩
abbrev main_v28_8 : Ref sig .tc := ⟨.hbm, 43, rfl⟩
abbrev main_v28_9 : Ref sig .tc := ⟨.hbm, 44, rfl⟩
abbrev main_v28_10 : Ref sig .tc := ⟨.hbm, 45, rfl⟩
abbrev main_v28_11 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x544x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x544x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S544x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x544x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x544x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S544x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S544x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S544x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S544x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S544x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S8x2064x1024 : Shape := ⟨3, ![8, 2064, 1024]⟩
abbrev S1024x5120 : Shape := ⟨2, ![1024, 5120]⟩
abbrev S2048 : Shape := ⟨1, ![2048]⟩
abbrev S_ : Shape := ⟨0, ![]⟩
abbrev S8x2176x1024 : Shape := ⟨3, ![8, 2176, 1024]⟩
abbrev S2176 : Shape := ⟨1, ![2176]⟩
abbrev S8x2176x5120 : Shape := ⟨3, ![8, 2176, 5120]⟩
abbrev S8x2176x512 : Shape := ⟨3, ![8, 2176, 512]⟩
abbrev S8x2176x4x2x64 : Shape := ⟨5, ![8, 2176, 4, 2, 64]⟩
abbrev S32 : Shape := ⟨1, ![32]⟩
abbrev S2176x1 : Shape := ⟨2, ![2176, 1]⟩
abbrev S1x32 : Shape := ⟨2, ![1, 32]⟩
abbrev S2176x32 : Shape := ⟨2, ![2176, 32]⟩
abbrev S1x2176x1x1x32 : Shape := ⟨5, ![1, 2176, 1, 1, 32]⟩
abbrev S8x2176x4x2x32 : Shape := ⟨5, ![8, 2176, 4, 2, 32]⟩
abbrev S1024 : Shape := ⟨1, ![1024]⟩
abbrev S1x1x1024 : Shape := ⟨3, ![1, 1, 1024]⟩
abbrev S17408x512 : Shape := ⟨2, ![17408, 512]⟩
abbrev S8x2064x512 : Shape := ⟨3, ![8, 2064, 512]⟩
abbrev S8x2064x4x2x64 : Shape := ⟨5, ![8, 2064, 4, 2, 64]⟩
abbrev S17408x1024 : Shape := ⟨2, ![17408, 1024]⟩

abbrev nBuf : Space → Nat
  | .hbm => 129
  | .vmem => 0
  | .smem => 0
  | _ => 0

abbrev hbmTy0_0 (i : Nat) : BufTy := match i % 128 with
  | 0 => ⟨S8x2064x1024, .f32⟩
  | 1 => ⟨S1024x5120, .f32⟩
  | 2 => ⟨S2048, .f32⟩
  | 3 => ⟨S_, .i32⟩
  | 4 => ⟨S_, .f32⟩
  | 5 => ⟨S8x2176x1024, .f32⟩
  | 6 => ⟨S2176, .f32⟩
  | 7 => ⟨S8x2176x5120, .f32⟩
  | 8 => ⟨S8x2176x512, .f32⟩
  | 9 => ⟨S8x2176x512, .f32⟩
  | 10 => ⟨S8x2176x512, .f32⟩
  | 11 => ⟨S8x2176x512, .f32⟩
  | 12 => ⟨S8x2176x512, .f32⟩
  | 13 => ⟨S8x2176x512, .f32⟩
  | 14 => ⟨S8x2176x1024, .f32⟩
  | 15 => ⟨S8x2176x1024, .f32⟩
  | 16 => ⟨S8x2176x4x2x64, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S2176x1, .f32⟩
  | 26 => ⟨S1x32, .f32⟩
  | 27 => ⟨S2176x32, .f32⟩
  | 28 => ⟨S2176x32, .f32⟩
  | 29 => ⟨S2176x32, .f32⟩
  | 30 => ⟨S2176x32, .f32⟩
  | 31 => ⟨S1x2176x1x1x32, .f32⟩
  | 32 => ⟨S2176x32, .f32⟩
  | 33 => ⟨S1x2176x1x1x32, .f32⟩
  | 34 => ⟨S8x2176x4x2x32, .f32⟩
  | 35 => ⟨S8x2176x4x2x32, .f32⟩
  | 36 => ⟨S8x2176x4x2x32, .f32⟩
  | 37 => ⟨S8x2176x4x2x32, .f32⟩
  | 38 => ⟨S8x2176x4x2x32, .f32⟩
  | 39 => ⟨S8x2176x4x2x32, .f32⟩
  | 40 => ⟨S8x2176x4x2x32, .f32⟩
  | 41 => ⟨S8x2176x4x2x32, .f32⟩
  | 42 => ⟨S8x2176x4x2x32, .f32⟩
  | 43 => ⟨S8x2176x4x2x32, .f32⟩
  | 44 => ⟨S8x2176x4x2x32, .f32⟩
  | 45 => ⟨S8x2176x4x2x32, .f32⟩
  | 46 => ⟨S8x2176x4x2x64, .f32⟩
  | 47 => ⟨S8x2176x4x2x64, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S2176x1, .f32⟩
  | 57 => ⟨S1x32, .f32⟩
  | 58 => ⟨S2176x32, .f32⟩
  | 59 => ⟨S2176x32, .f32⟩
  | 60 => ⟨S2176x32, .f32⟩
  | 61 => ⟨S2176x32, .f32⟩
  | 62 => ⟨S1x2176x1x1x32, .f32⟩
  | 63 => ⟨S2176x32, .f32⟩
  | 64 => ⟨S1x2176x1x1x32, .f32⟩
  | 65 => ⟨S8x2176x4x2x32, .f32⟩
  | 66 => ⟨S8x2176x4x2x32, .f32⟩
  | 67 => ⟨S8x2176x4x2x32, .f32⟩
  | 68 => ⟨S8x2176x4x2x32, .f32⟩
  | 69 => ⟨S8x2176x4x2x32, .f32⟩
  | 70 => ⟨S8x2176x4x2x32, .f32⟩
  | 71 => ⟨S8x2176x4x2x32, .f32⟩
  | 72 => ⟨S8x2176x4x2x32, .f32⟩
  | 73 => ⟨S8x2176x4x2x32, .f32⟩
  | 74 => ⟨S8x2176x4x2x32, .f32⟩
  | 75 => ⟨S8x2176x4x2x32, .f32⟩
  | 76 => ⟨S8x2176x4x2x32, .f32⟩
  | 77 => ⟨S8x2176x4x2x64, .f32⟩
  | 78 => ⟨S1024, .f32⟩
  | 79 => ⟨S1x1x1024, .f32⟩
  | 80 => ⟨S8x2176x1024, .f32⟩
  | 81 => ⟨S8x2176x1024, .f32⟩
  | 82 => ⟨S8x2176x1024, .f32⟩
  | 83 => ⟨S8x2176x1024, .f32⟩
  | 84 => ⟨S_, .f32⟩
  | 85 => ⟨S8x2176x1024, .f32⟩
  | 86 => ⟨S8x2176x1024, .f32⟩
  | 87 => ⟨S_, .f32⟩
  | 88 => ⟨S8x2176x1024, .f32⟩
  | 89 => ⟨S8x2176x1024, .f32⟩
  | 90 => ⟨S1024, .f32⟩
  | 91 => ⟨S1x1x1024, .f32⟩
  | 92 => ⟨S8x2176x1024, .f32⟩
  | 93 => ⟨S8x2176x1024, .f32⟩
  | 94 => ⟨S8x2176x1024, .f32⟩
  | 95 => ⟨S8x2176x1024, .f32⟩
  | 96 => ⟨S_, .f32⟩
  | 97 => ⟨S8x2176x1024, .f32⟩
  | 98 => ⟨S8x2176x1024, .f32⟩
  | 99 => ⟨S_, .f32⟩
  | 100 => ⟨S8x2176x1024, .f32⟩
  | 101 => ⟨S8x2176x1024, .f32⟩
  | 102 => ⟨S_, .f32⟩
  | 103 => ⟨S8x2176x512, .f32⟩
  | 104 => ⟨S8x2176x512, .f32⟩
  | 105 => ⟨S17408x512, .f32⟩
  | 106 => ⟨S17408x512, .bf16⟩
  | 107 => ⟨S8x2064x512, .f32⟩
  | 108 => ⟨S8x2064x512, .f32⟩
  | 109 => ⟨S_, .f32⟩
  | 110 => ⟨S8x2176x4x2x64, .f32⟩
  | 111 => ⟨S8x2176x4x2x64, .f32⟩
  | 112 => ⟨S17408x512, .f32⟩
  | 113 => ⟨S17408x512, .bf16⟩
  | 114 => ⟨S8x2064x4x2x64, .f32⟩
  | 115 => ⟨S8x2064x512, .f32⟩
  | 116 => ⟨S8x2064x512, .f32⟩
  | 117 => ⟨S17408x512, .f32⟩
  | 118 => ⟨S17408x512, .bf16⟩
  | 119 => ⟨S17408x512, .f32⟩
  | 120 => ⟨S17408x512, .bf16⟩
  | 121 => ⟨S17408x512, .f32⟩
  | 122 => ⟨S17408x512, .bf16⟩
  | 123 => ⟨S17408x512, .f32⟩
  | 124 => ⟨S17408x512, .bf16⟩
  | 125 => ⟨S17408x1024, .f32⟩
  | 126 => ⟨S17408x1024, .bf16⟩
  | 127 => ⟨S17408x1024, .f32⟩
  | _ => ⟨S8x2064x1024, .f32⟩

abbrev hbmTy0_1 (i : Nat) : BufTy := match i % 128 with
  | 0 => ⟨S17408x1024, .bf16⟩
  | _ => ⟨S8x2064x1024, .f32⟩

abbrev hbmTy (i : Nat) : BufTy := match i / 128 with
  | 0 => hbmTy0_0 i
  | 1 => hbmTy0_1 i
  | _ => ⟨S8x2064x1024, .f32⟩

abbrev bufTy : (tb : Table) → Fin (tcTables nBuf tb) → BufTy
  | .hbm, ⟨i, _⟩ => hbmTy i
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_3 : Ref sig .tc := ⟨.hbm, 84, rfl⟩
abbrev main_v75 : Ref sig .tc := ⟨.hbm, 85, rfl⟩
abbrev main_v76 : Ref sig .tc := ⟨.hbm, 86, rfl⟩
abbrev main_cst_4 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_5 : Ref sig .tc := ⟨.hbm, 96, rfl⟩
abbrev main_v85 : Ref sig .tc := ⟨.hbm, 97, rfl⟩
abbrev main_v86 : Ref sig .tc := ⟨.hbm, 98, rfl⟩
abbrev main_cst_6 : Ref sig .tc := ⟨.hbm, 99, rfl⟩
abbrev main_v87 : Ref sig .tc := ⟨.hbm, 100, rfl⟩
abbrev main_v88 : Ref sig .tc := ⟨.hbm, 101, rfl⟩
abbrev main_cst_7 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_8 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩

abbrev nD : Nat := 1
abbrev τ : Topo := Topo.v7x

variable {F : FTy → Type} [FloatOps F]
-- ==== Kernel3.lean ====
abbrev S8x2064x1024 : Shape := ⟨3, ![8, 2064, 1024]⟩
abbrev S8x2064x512 : Shape := ⟨3, ![8, 2064, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x2176x1024 : Shape := ⟨3, ![8, 2176, 1024]⟩
abbrev S17408x1024 : Shape := ⟨2, ![17408, 1024]⟩
abbrev S8x2176x512 : Shape := ⟨3, ![8, 2176, 512]⟩
abbrev S17408x512 : Shape := ⟨2, ![17408, 512]⟩
abbrev S1x1024 : Shape := ⟨2, ![1, 1024]⟩
abbrev S544x1024 : Shape := ⟨2, ![544, 1024]⟩
abbrev S544x512 : Shape := ⟨2, ![544, 512]⟩
abbrev S544 : Shape := ⟨1, ![544]⟩
abbrev S544x1 : Shape := ⟨2, ![544, 1]⟩

abbrev nBuf : Space → Nat
  | .hbm => 41
  | .vmem => 19
  | .smem => 0
  | _ => 0

abbrev bufTy : (tb : Table) → Fin (tcTables nBuf tb) → BufTy
  | .hbm, ⟨0, _⟩ => ⟨S8x2064x1024, .f32⟩
  | .hbm, ⟨1, _⟩ => ⟨S8x2064x512, .f32⟩
  | .hbm, ⟨2, _⟩ => ⟨S8x2064x512, .f32⟩
  | .hbm, ⟨3, _⟩ => ⟨S8x2064x1024, .f32⟩
  | .hbm, ⟨4, _⟩ => ⟨S8x2064x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S8x2176x1024, .f32⟩
  | .hbm, ⟨13, _⟩ => ⟨S17408x1024, .f32⟩
  | .hbm, ⟨14, _⟩ => ⟨S_, .i32⟩
  | .hbm, ⟨15, _⟩ => ⟨S_, .f32⟩
  | .hbm, ⟨16, _⟩ => ⟨S8x2176x512, .f32⟩
  | .hbm, ⟨17, _⟩ => ⟨S17408x512, .f32⟩
  | .hbm, ⟨18, _⟩ => ⟨S17408x512, .bf16⟩
  | .hbm, ⟨19, _⟩ => ⟨S_, .i32⟩
  | .hbm, ⟨20, _⟩ => ⟨S_, .f32⟩
  | .hbm, ⟨21, _⟩ => ⟨S8x2176x512, .f32⟩
  | .hbm, ⟨22, _⟩ => ⟨S17408x512, .f32⟩
  | .hbm, ⟨23, _⟩ => ⟨S17408x512, .bf16⟩
  | .hbm, ⟨24, _⟩ => ⟨S_, .i32⟩
  | .hbm, ⟨25, _⟩ => ⟨S_, .f32⟩
  | .hbm, ⟨26, _⟩ => ⟨S8x2176x1024, .f32⟩
  | .hbm, ⟨27, _⟩ => ⟨S17408x1024, .f32⟩
  | .hbm, ⟨28, _⟩ => ⟨S17408x1024, .bf16⟩
  | .hbm, ⟨29, _⟩ => ⟨S_, .i32⟩
  | .hbm, ⟨30, _⟩ => ⟨S_, .f32⟩
  | .hbm, ⟨31, _⟩ => ⟨S8x2176x1024, .f32⟩
  | .hbm, ⟨32, _⟩ => ⟨S17408x1024, .f32⟩
  | .hbm, ⟨33, _⟩ => ⟨S17408x1024, .bf16⟩
  | .hbm, ⟨34, _⟩ => ⟨S512x1024, .bf16⟩
  | .hbm, ⟨35, _⟩ => ⟨S512x1024, .bf16⟩
  | .hbm, ⟨36, _⟩ => ⟨S1024x1024, .bf16⟩
  | .hbm, ⟨37, _⟩ => ⟨S1x1024, .f32⟩
  | .hbm, ⟨38, _⟩ => ⟨S1x1024, .f32⟩
  | .hbm, ⟨39, _⟩ => ⟨S17408x1024, .f32⟩
  | .hbm, ⟨40, _⟩ => ⟨S17408x1024, .bf16⟩
  | .local _ .vmem, ⟨0, _⟩ => ⟨S544x1024, .f32⟩
  | .local _ .vmem, ⟨1, _⟩ => ⟨S544x1024, .f32⟩
  | .local _ .vmem, ⟨2, _⟩ => ⟨S544x512, .bf16⟩
  | .local _ .vmem, ⟨3, _⟩ => ⟨S544x512, .bf16⟩
  | .local _ .vmem, ⟨4, _⟩ => ⟨S544x512, .bf16⟩
  | .local _ .vmem, ⟨5, _⟩ => ⟨S544x512, .bf16⟩
  | .local _ .vmem, ⟨6, _⟩ => ⟨S544x1024, .bf16⟩
  | .local _ .vmem, ⟨7, _⟩ => ⟨S544x1024, .bf16⟩
  | .local _ .vmem, ⟨8, _⟩ => ⟨S544x1024, .bf16⟩
  | .local _ .vmem, ⟨9, _⟩ => ⟨S544x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S544x1024, .f32⟩
  | .local _ .vmem, ⟨16, _⟩ => ⟨S544x1024, .f32⟩
  | .local _ .vmem, ⟨17, _⟩ => ⟨S544x1024, .bf16⟩
  | .local _ .vmem, ⟨18, _⟩ => ⟨S544x1024, .bf16⟩
  | _, _ => ⟨S8x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_call2_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_call3_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_call4_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S544x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S544x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S544x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S544x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8x2064x1024 : Shape := ⟨3, ![8, 2064, 1024]⟩
abbrev S8x2064x512 : Shape := ⟨3, ![8, 2064, 512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S8x2176x1024 : Shape := ⟨3, ![8, 2176, 1024]⟩
abbrev S8x2176x512 : Shape := ⟨3, ![8, 2176, 512]⟩
abbrev S8x2176 : Shape := ⟨2, ![8, 2176]⟩
abbrev S8x2176x1 : Shape := ⟨3, ![8, 2176, 1]⟩
abbrev S1x1x1024 : Shape := ⟨3, ![1, 1, 1024]⟩
abbrev S17408x1024 : Shape := ⟨2, ![17408, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x2064x1024, .f32⟩
  | .hbm, ⟨1, _⟩ => ⟨S8x2064x512, .f32⟩
  | .hbm, ⟨2, _⟩ => ⟨S8x2064x512, .f32⟩
  | .hbm, ⟨3, _⟩ => ⟨S8x2064x1024, .f32⟩
  | .hbm, ⟨4, _⟩ => ⟨S8x2064x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S8x2176x1024, .f32⟩
  | .hbm, ⟨13, _⟩ => ⟨S_, .i32⟩
  | .hbm, ⟨14, _⟩ => ⟨S_, .f32⟩
  | .hbm, ⟨15, _⟩ => ⟨S8x2176x512, .f32⟩
  | .hbm, ⟨16, _⟩ => ⟨S_, .i32⟩
  | .hbm, ⟨17, _⟩ => ⟨S_, .f32⟩
  | .hbm, ⟨18, _⟩ => ⟨S8x2176x512, .f32⟩
  | .hbm, ⟨19, _⟩ => ⟨S_, .i32⟩
  | .hbm, ⟨20, _⟩ => ⟨S_, .f32⟩
  | .hbm, ⟨21, _⟩ => ⟨S8x2176x1024, .f32⟩
  | .hbm, ⟨22, _⟩ => ⟨S_, .i32⟩
  | .hbm, ⟨23, _⟩ => ⟨S_, .f32⟩
  | .hbm, ⟨24, _⟩ => ⟨S8x2176x1024, .f32⟩
  | .hbm, ⟨25, _⟩ => ⟨S8x2176x1024, .f32⟩
  | .hbm, ⟨26, _⟩ => ⟨S8x2176x1024, .f32⟩
  | .hbm, ⟨27, _⟩ => ⟨S8x2176x1024, .f32⟩
  | .hbm, ⟨28, _⟩ => ⟨S8x2176x1024, .f32⟩
  | .hbm, ⟨29, _⟩ => ⟨S8x2176x1024, .f32⟩
  | .hbm, ⟨30, _⟩ => ⟨S_, .f32⟩
  | .hbm, ⟨31, _⟩ => ⟨S8x2176x1024, .f32⟩
  | .hbm, ⟨32, _⟩ => ⟨S8x2176x1024, .f32⟩
  | .hbm, ⟨33, _⟩ => ⟨S8x2176x1024, .f32⟩
  | .hbm, ⟨34, _⟩ => ⟨S8x2176x1024, .f32⟩
  | .hbm, ⟨35, _⟩ => ⟨S_, .f32⟩
  | .hbm, ⟨36, _⟩ => ⟨S8x2176, .f32⟩
  | .hbm, ⟨37, _⟩ => ⟨S8x2176x1, .f32⟩
  | .hbm, ⟨38, _⟩ => ⟨S_, .f32⟩
  | .hbm, ⟨39, _⟩ => ⟨S8x2176x1, .f32⟩
  | .hbm, ⟨40, _⟩ => ⟨S8x2176x1, .f32⟩
  | .hbm, ⟨41, _⟩ => ⟨S8x2176x1024, .f32⟩
  | .hbm, ⟨42, _⟩ => ⟨S8x2176x1024, .f32⟩
  | .hbm, ⟨43, _⟩ => ⟨S8x2176x1024, .f32⟩
  | .hbm, ⟨44, _⟩ => ⟨S_, .f32⟩
  | .hbm, ⟨45, _⟩ => ⟨S8x2176, .f32⟩
  | .hbm, ⟨46, _⟩ => ⟨S8x2176x1, .f32⟩
  | .hbm, ⟨47, _⟩ => ⟨S_, .f32⟩
  | .hbm, ⟨48, _⟩ => ⟨S8x2176x1, .f32⟩
  | .hbm, ⟨49, _⟩ => ⟨S8x2176x1, .f32⟩
  | .hbm, ⟨50, _⟩ => ⟨S8x2176x1024, .f32⟩
  | .hbm, ⟨51, _⟩ => ⟨S8x2176x1024, .f32⟩
  | .hbm, ⟨52, _⟩ => ⟨S_, .f32⟩
  | .hbm, ⟨53, _⟩ => ⟨S8x2176x1, .f32⟩
  | .hbm, ⟨54, _⟩ => ⟨S8x2176x1, .f32⟩
  | .hbm, ⟨55, _⟩ => ⟨S8x2176x1, .f32⟩
  | .hbm, ⟨56, _⟩ => ⟨S8x2176x1024, .f32⟩
  | .hbm, ⟨57, _⟩ => ⟨S8x2176x1024, .f32⟩
  | .hbm, ⟨58, _⟩ => ⟨S1x1x1024, .f32⟩
  | .hbm, ⟨59, _⟩ => ⟨S8x2176x1024, .f32⟩
  | .hbm, ⟨60, _⟩ => ⟨S8x2176x1024, .f32⟩
  | .hbm, ⟨61, _⟩ => ⟨S1x1x1024, .f32⟩
  | .hbm, ⟨62, _⟩ => ⟨S8x2176x1024, .f32⟩
  | .hbm, ⟨63, _⟩ => ⟨S8x2176x1024, .f32⟩
  | .hbm, ⟨64, _⟩ => ⟨S17408x1024, .f32⟩
  | .hbm, ⟨65, _⟩ => ⟨S17408x1024, .bf16⟩
  | _, _ => ⟨S8x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_c_1 : Ref sig .tc := ⟨.hbm, 16, rfl⟩
abbrev main_call2_v0 : Ref sig .tc := ⟨.hbm, 17, rfl⟩
abbrev main_v2 : Ref sig .tc := ⟨.hbm, 18, rfl⟩
abbrev main_c_2 : Ref sig .tc := ⟨.hbm, 19, rfl⟩
abbrev main_call3_v0 : Ref sig .tc := ⟨.hbm, 20, rfl⟩
abbrev main_v3 : Ref sig .tc := ⟨.hbm, 21, rfl⟩
abbrev main_c_3 : Ref sig .tc := ⟨.hbm, 22, rfl⟩
abbrev main_call4_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_8 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== Kernel4.lean ====
abbrev S8x2064x4x2x64 : Shape := ⟨5, ![8, 2064, 4, 2, 64]⟩
abbrev S8x2064x4x128 : Shape := ⟨4, ![8, 2064, 4, 128]⟩
abbrev S64 : Shape := ⟨1, ![64]⟩
abbrev S4x128 : Shape := ⟨2, ![4, 128]⟩
abbrev S_ : Shape := ⟨0, ![]⟩
abbrev S1 : Shape := ⟨1, ![1]⟩
abbrev S8x2176x4x2x64 : Shape := ⟨5, ![8, 2176, 4, 2, 64]⟩
abbrev S8x2176x512 : Shape := ⟨3, ![8, 2176, 512]⟩
abbrev S8x2176x4x128 : Shape := ⟨4, ![8, 2176, 4, 128]⟩
abbrev S1x4x128 : Shape := ⟨3, ![1, 4, 128]⟩
abbrev S1x128x512 : Shape := ⟨3, ![1, 128, 512]⟩
abbrev S1x2176x512 : Shape := ⟨3, ![1, 2176, 512]⟩
abbrev S128x512 : Shape := ⟨2, ![128, 512]⟩
abbrev S128x128 : Shape := ⟨2, ![128, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩
abbrev S128 : Shape := ⟨1, ![128]⟩
abbrev S128x1 : Shape := ⟨2, ![128, 1]⟩

abbrev nBuf : Space → Nat
  | .hbm => 40
  | .vmem => 9
  | .smem => 1
  | _ => 0

abbrev bufTy : (tb : Table) → Fin (tcTables nBuf tb) → BufTy
  | .hbm, ⟨0, _⟩ => ⟨S8x2064x4x2x64, .f32⟩
  | .hbm, ⟨1, _⟩ => ⟨S8x2064x4x2x64, .f32⟩
  | .hbm, ⟨2, _⟩ => ⟨S8x2064x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4x128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .i32⟩
  | .hbm, ⟨21, _⟩ => ⟨S_, .f32⟩
  | .hbm, ⟨22, _⟩ => ⟨S8x2176x4x2x64, .f32⟩
  | .hbm, ⟨23, _⟩ => ⟨S8x2176x512, .f32⟩
  | .hbm, ⟨24, _⟩ => ⟨S_, .f32⟩
  | .hbm, ⟨25, _⟩ => ⟨S8x2176x512, .f32⟩
  | .hbm, ⟨26, _⟩ => ⟨S8x2176x512, .f32⟩
  | .hbm, ⟨27, _⟩ => ⟨S8x2176x512, .bf16⟩
  | .hbm, ⟨28, _⟩ => ⟨S_, .i32⟩
  | .hbm, ⟨29, _⟩ => ⟨S_, .f32⟩
  | .hbm, ⟨30, _⟩ => ⟨S8x2176x4x2x64, .f32⟩
  | .hbm, ⟨31, _⟩ => ⟨S8x2176x512, .f32⟩
  | .hbm, ⟨32, _⟩ => ⟨S8x2176x512, .bf16⟩
  | .hbm, ⟨33, _⟩ => ⟨S_, .i32⟩
  | .hbm, ⟨34, _⟩ => ⟨S_, .f32⟩
  | .hbm, ⟨35, _⟩ => ⟨S8x2176x4x128, .f32⟩
  | .hbm, ⟨36, _⟩ => ⟨S8x2176x512, .f32⟩
  | .hbm, ⟨37, _⟩ => ⟨S8x2176x512, .bf16⟩
  | .hbm, ⟨38, _⟩ => ⟨S1x4x128, .f32⟩
  | .hbm, ⟨39, _⟩ => ⟨S8x2176x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2176x512, .bf16⟩
  | .local _ .vmem, ⟨3, _⟩ => ⟨S1x2176x512, .bf16⟩
  | .local _ .vmem, ⟨4, _⟩ => ⟨S1x2176x512, .bf16⟩
  | .local _ .vmem, ⟨5, _⟩ => ⟨S1x2176x512, .bf16⟩
  | .local _ .vmem, ⟨6, _⟩ => ⟨S1x4x128, .f32⟩
  | .local _ .vmem, ⟨7, _⟩ => ⟨S1x128x512, .bf16⟩
  | .local _ .vmem, ⟨8, _⟩ => ⟨S1x128x512, .bf16⟩
  | .local _ .smem, ⟨0, _⟩ => ⟨S1, .f32⟩
  | _, _ => ⟨S8x2064x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 17], ![false, false, false]⟩

def k0_mult1 (i : grid0.Coords) : BitVec 32 :=
  let arg2 : BitVec 32 := BitVec.ofNat 32 (i 2).val
  let c128_i32 : BitVec 32 := 128#32
  let v248 : BitVec 32 := Scalar.muli arg2 c128_i32
  let c0_i32_70 : BitVec 32 := 0#32
  let v250 : BitVec 1 := Scalar.cmpi .sgt v248 c0_i32_70
  let v251 : BitVec 32 := Scalar.extui v250
  let c0_i32_71 : BitVec 32 := 0#32
  let v252 : BitVec 1 := Scalar.cmpi .slt v248 c0_i32_71
  let v253 : BitVec 32 := Scalar.extui v252
  let v254 : BitVec 32 := Scalar.subi v251 v253
  let c512_i32 : BitVec 32 := 512#32
  let c0_i32_72 : BitVec 32 := 0#32
  let v255 : BitVec 1 := Scalar.cmpi .sgt c512_i32 c0_i32_72
  let v256 : BitVec 32 := Scalar.extui v255
  let c0_i32_73 : BitVec 32 := 0#32
  let v257 : BitVec 1 := Scalar.cmpi .slt c512_i32 c0_i32_73
  let v258 : BitVec 32 := Scalar.extui v257
  let v259 : BitVec 32 := Scalar.subi v256 v258
  let v260 : BitVec 1 := Scalar.cmpi .ne v254 v259
  let v261 : BitVec 32 := Scalar.remsi v248 c512_i32
  let c0_i32_74 : BitVec 32 := 0#32
  let v262 : BitVec 1 := Scalar.cmpi .ne v261 c0_i32_74
  let v263 : BitVec 1 := Scalar.andi v260 v262
  let v249 : BitVec 32 := Scalar.divsi v248 c512_i32
  let c1_i32_75 : BitVec 32 := 1#32
  let v264 : BitVec 32 := Scalar.subi v249 c1_i32_75
  let v265 : BitVec 32 := Scalar.select v263 v264 v249
  let c512_i32_76 : BitVec 32 := 512#32
  let v266 : BitVec 32 := Scalar.muli v265 c512_i32_76
  let c1664_i32 : BitVec 32 := 1664#32
  let v267 : BitVec 32 := Scalar.minsi v266 c1664_i32
  v267
def k0_off1 (i : grid0.Coords) : Fin 3 → Nat :=
  let c0_78 : Index := 0#32
  let arg2 : BitVec 32 := BitVec.ofNat 32 (i 2).val
  let c128_i32 : BitVec 32 := 128#32
  let v248 : BitVec 32 := Scalar.muli arg2 c128_i32
  let c0_i32_70 : BitVec 32 := 0#32
  let v250 : BitVec 1 := Scalar.cmpi .sgt v248 c0_i32_70
  let v251 : BitVec 32 := Scalar.extui v250
  let c0_i32_71 : BitVec 32 := 0#32
  let v252 : BitVec 1 := Scalar.cmpi .slt v248 c0_i32_71
  let v253 : BitVec 32 := Scalar.extui v252
  let v254 : BitVec 32 := Scalar.subi v251 v253
  let c512_i32 : BitVec 32 := 512#32
  let c0_i32_72 : BitVec 32 := 0#32
  let v255 : BitVec 1 := Scalar.cmpi .sgt c512_i32 c0_i32_72
  let v256 : BitVec 32 := Scalar.extui v255
  let c0_i32_73 : BitVec 32 := 0#32
  let v257 : BitVec 1 := Scalar.cmpi .slt c512_i32 c0_i32_73
  let v258 : BitVec 32 := Scalar.extui v257
  let v259 : BitVec 32 := Scalar.subi v256 v258
  let v260 : BitVec 1 := Scalar.cmpi .ne v254 v259
  let v261 : BitVec 32 := Scalar.remsi v248 c512_i32
  let c0_i32_74 : BitVec 32 := 0#32
  let v262 : BitVec 1 := Scalar.cmpi .ne v261 c0_i32_74
  let v263 : BitVec 1 := Scalar.andi v260 v262
  let v249 : BitVec 32 := Scalar.divsi v248 c512_i32
  let c1_i32_75 : BitVec 32 := 1#32
  let v264 : BitVec 32 := Scalar.subi v249 c1_i32_75
  let v265 : BitVec 32 := Scalar.select v263 v264 v249
  let c512_i32_76 : BitVec 32 := 512#32
  let v266 : BitVec 32 := Scalar.muli v265 c512_i32_76
  let c1664_i32 : BitVec 32 := 1664#32
  let v267 : BitVec 32 := Scalar.minsi v266 c1664_i32
  let v268 : BitVec 32 := v267
  let v280 : Index := Scalar.indexCast v268
  let c0_79 : Index := 0#32
  ![0, v280.toNat, 0]
def k0_off2 (i : grid0.Coords) : Fin 3 → Nat :=
  let c0_83 : Index := 0#32
  let arg2 : BitVec 32 := BitVec.ofNat 32 (i 2).val
  let c128_i32 : BitVec 32 := 128#32
  let v248 : BitVec 32 := Scalar.muli arg2 c128_i32
  let c0_i32_70 : BitVec 32 := 0#32
  let v250 : BitVec 1 := Scalar.cmpi .sgt v248 c0_i32_70
  let v251 : BitVec 32 := Scalar.extui v250
  let c0_i32_71 : BitVec 32 := 0#32
  let v252 : BitVec 1 := Scalar.cmpi .slt v248 c0_i32_71
  let v253 : BitVec 32 := Scalar.extui v252
  let v254 : BitVec 32 := Scalar.subi v251 v253
  let c512_i32 : BitVec 32 := 512#32
  let c0_i32_72 : BitVec 32 := 0#32
  let v255 : BitVec 1 := Scalar.cmpi .sgt c512_i32 c0_i32_72
  let v256 : BitVec 32 := Scalar.extui v255
  let c0_i32_73 : BitVec 32 := 0#32
  let v257 : BitVec 1 := Scalar.cmpi .slt c512_i32 c0_i32_73
  let v258 : BitVec 32 := Scalar.extui v257
  let v259 : BitVec 32 := Scalar.subi v256 v258
  let v260 : BitVec 1 := Scalar.cmpi .ne v254 v259
  let v261 : BitVec 32 := Scalar.remsi v248 c512_i32
  let c0_i32_74 : BitVec 32 := 0#32
  let v262 : BitVec 1 := Scalar.cmpi .ne v261 c0_i32_74
  let v263 : BitVec 1 := Scalar.andi v260 v262
  let v249 : BitVec 32 := Scalar.divsi v248 c512_i32
  let c1_i32_75 : BitVec 32 := 1#32
  let v264 : BitVec 32 := Scalar.subi v249 c1_i32_75
  let v265 : BitVec 32 := Scalar.select v263 v264 v249
  let c512_i32_76 : BitVec 32 := 512#32
  let v266 : BitVec 32 := Scalar.muli v265 c512_i32_76
  let c1664_i32 : BitVec 32 := 1664#32
  let v267 : BitVec 32 := Scalar.minsi v266 c1664_i32
  let v268 : BitVec 32 := v267
  let v291 : Index := Scalar.indexCast v268
  let c128 : Index := 128#32
  ![0, v291.toNat, 128]
def k0_off3 (i : grid0.Coords) : Fin 3 → Nat :=
  let c0_97 : Index := 0#32
  let arg2 : BitVec 32 := BitVec.ofNat 32 (i 2).val
  let c128_i32 : BitVec 32 := 128#32
  let v248 : BitVec 32 := Scalar.muli arg2 c128_i32
  let c0_i32_70 : BitVec 32 := 0#32
  let v250 : BitVec 1 := Scalar.cmpi .sgt v248 c0_i32_70
  let v251 : BitVec 32 := Scalar.extui v250
  let c0_i32_71 : BitVec 32 := 0#32
  let v252 : BitVec 1 := Scalar.cmpi .slt v248 c0_i32_71
  let v253 : BitVec 32 := Scalar.extui v252
  let v254 : BitVec 32 := Scalar.subi v251 v253
  let c512_i32 : BitVec 32 := 512#32
  let c0_i32_72 : BitVec 32 := 0#32
  let v255 : BitVec 1 := Scalar.cmpi .sgt c512_i32 c0_i32_72
  let v256 : BitVec 32 := Scalar.extui v255
  let c0_i32_73 : BitVec 32 := 0#32
  let v257 : BitVec 1 := Scalar.cmpi .slt c512_i32 c0_i32_73
  let v258 : BitVec 32 := Scalar.extui v257
  let v259 : BitVec 32 := Scalar.subi v256 v258
  let v260 : BitVec 1 := Scalar.cmpi .ne v254 v259
  let v261 : BitVec 32 := Scalar.remsi v248 c512_i32
  let c0_i32_74 : BitVec 32 := 0#32
  let v262 : BitVec 1 := Scalar.cmpi .ne v261 c0_i32_74
  let v263 : BitVec 1 := Scalar.andi v260 v262
  let v249 : BitVec 32 := Scalar.divsi v248 c512_i32
  let c1_i32_75 : BitVec 32 := 1#32
  let v264 : BitVec 32 := Scalar.subi v249 c1_i32_75
  let v265 : BitVec 32 := Scalar.select v263 v264 v249
  let c512_i32_76 : BitVec 32 := 512#32
  let v266 : BitVec 32 := Scalar.muli v265 c512_i32_76
  let c1664_i32 : BitVec 32 := 1664#32
  let v267 : BitVec 32 := Scalar.minsi v266 c1664_i32
  let v268 : BitVec 32 := v267
  let v326 : Index := Scalar.indexCast v268
  let c256 : Index := 256#32
  ![0, v326.toNat, 256]
def k0_off4 (i : grid0.Coords) : Fin 3 → Nat :=
  let c0_101 : Index := 0#32
  let arg2 : BitVec 32 := BitVec.ofNat 32 (i 2).val
  let c128_i32 : BitVec 32 := 128#32
  let v248 : BitVec 32 := Scalar.muli arg2 c128_i32
  let c0_i32_70 : BitVec 32 := 0#32
  let v250 : BitVec 1 := Scalar.cmpi .sgt v248 c0_i32_70
  let v251 : BitVec 32 := Scalar.extui v250
  let c0_i32_71 : BitVec 32 := 0#32
  let v252 : BitVec 1 := Scalar.cmpi .slt v248 c0_i32_71
  let v253 : BitVec 32 := Scalar.extui v252
  let v254 : BitVec 32 := Scalar.subi v251 v253
  let c512_i32 : BitVec 32 := 512#32
  let c0_i32_72 : BitVec 32 := 0#32
  let v255 : BitVec 1 := Scalar.cmpi .sgt c512_i32 c0_i32_72
  let v256 : BitVec 32 := Scalar.extui v255
  let c0_i32_73 : BitVec 32 := 0#32
  let v257 : BitVec 1 := Scalar.cmpi .slt c512_i32 c0_i32_73
  let v258 : BitVec 32 := Scalar.extui v257
  let v259 : BitVec 32 := Scalar.subi v256 v258
  let v260 : BitVec 1 := Scalar.cmpi .ne v254 v259
  let v261 : BitVec 32 := Scalar.remsi v248 c512_i32
  let c0_i32_74 : BitVec 32 := 0#32
  let v262 : BitVec 1 := Scalar.cmpi .ne v261 c0_i32_74
  let v263 : BitVec 1 := Scalar.andi v260 v262
  let v249 : BitVec 32 := Scalar.divsi v248 c512_i32
  let c1_i32_75 : BitVec 32 := 1#32
  let v264 : BitVec 32 := Scalar.subi v249 c1_i32_75
  let v265 : BitVec 32 := Scalar.select v263 v264 v249
  let c512_i32_76 : BitVec 32 := 512#32
  let v266 : BitVec 32 := Scalar.muli v265 c512_i32_76
  let c1664_i32 : BitVec 32 := 1664#32
  let v267 : BitVec 32 := Scalar.minsi v266 c1664_i32
  let v268 : BitVec 32 := v267
  let v337 : Index := Scalar.indexCast v268
  let c384 : Index := 384#32
  ![0, v337.toNat, 384]
@[reducible] def k0_t1_loop (i : grid0.Coords) : Scf.Loop 32 :=
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let c1_i32_125 : BitVec 32 := 1#32
  ⟨c0_i32_123, v394, c1_i32_125⟩
def k0_mult2 (i : grid0.Coords) (k0_t1 : Fin (k0_t1_loop i).trips) : BitVec 32 :=
  let c0_i32_123 : BitVec 32 := 0#32
  let c1_i32_125 : BitVec 32 := 1#32
  let arg9 : BitVec 32 := Scf.iv c0_i32_123 c1_i32_125 k0_t1
  let c512_i32_159 : BitVec 32 := 512#32
  let v498 : BitVec 32 := Scalar.muli arg9 c512_i32_159
  v498
def k0_off5 (i : grid0.Coords) (k0_t1 : Fin (k0_t1_loop i).trips) : Fin 3 → Nat :=
  let c0_160 : Index := 0#32
  let c0_i32_123 : BitVec 32 := 0#32
  let c1_i32_125 : BitVec 32 := 1#32
  let arg9 : BitVec 32 := Scf.iv c0_i32_123 c1_i32_125 k0_t1
  let c512_i32_159 : BitVec 32 := 512#32
  let v498 : BitVec 32 := Scalar.muli arg9 c512_i32_159
  let v499 : BitVec 32 := v498
  let v500 : Index := Scalar.indexCast v499
  let c0_161 : Index := 0#32
  ![0, v500.toNat, 0]
def k0_off6 (i : grid0.Coords) (k0_t1 : Fin (k0_t1_loop i).trips) : Fin 3 → Nat :=
  let c0_163 : Index := 0#32
  let c0_i32_123 : BitVec 32 := 0#32
  let c1_i32_125 : BitVec 32 := 1#32
  let arg9 : BitVec 32 := Scf.iv c0_i32_123 c1_i32_125 k0_t1
  let c512_i32_159 : BitVec 32 := 512#32
  let v498 : BitVec 32 := Scalar.muli arg9 c512_i32_159
  let v499 : BitVec 32 := v498
  let v504 : Index := Scalar.indexCast v499
  let c128_164 : Index := 128#32
  ![0, v504.toNat, 128]
def k0_off7 (i : grid0.Coords) (k0_t1 : Fin (k0_t1_loop i).trips) : Fin 3 → Nat :=
  let c0_176 : Index := 0#32
  let c0_i32_123 : BitVec 32 := 0#32
  let c1_i32_125 : BitVec 32 := 1#32
  let arg9 : BitVec 32 := Scf.iv c0_i32_123 c1_i32_125 k0_t1
  let c512_i32_159 : BitVec 32 := 512#32
  let v498 : BitVec 32 := Scalar.muli arg9 c512_i32_159
  let v499 : BitVec 32 := v498
  let v548 : Index := Scalar.indexCast v499
  let c256_177 : Index := 256#32
  ![0, v548.toNat, 256]
def k0_off8 (i : grid0.Coords) (k0_t1 : Fin (k0_t1_loop i).trips) : Fin 3 → Nat :=
  let c0_179 : Index := 0#32
  let c0_i32_123 : BitVec 32 := 0#32
  let c1_i32_125 : BitVec 32 := 1#32
  let arg9 : BitVec 32 := Scf.iv c0_i32_123 c1_i32_125 k0_t1
  let c512_i32_159 : BitVec 32 := 512#32
  let v498 : BitVec 32 := Scalar.muli arg9 c512_i32_159
  let v499 : BitVec 32 := v498
  let v552 : Index := Scalar.indexCast v499
  let c384_180 : Index := 384#32
  ![0, v552.toNat, 384]
@[reducible] def k0_t2_loop (i : grid0.Coords) : Scf.Loop 32 :=
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let v391 : BitVec 32 := Scalar.addi c0_i32_123 v390
  let c1_i32_126 : BitVec 32 := 1#32
  ⟨v394, v391, c1_i32_126⟩
def k0_mult3 (i : grid0.Coords) (k0_t2 : Fin (k0_t2_loop i).trips) : BitVec 32 :=
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let c1_i32_126 : BitVec 32 := 1#32
  let arg9 : BitVec 32 := Scf.iv v394 c1_i32_126 k0_t2
  let c512_i32_159 : BitVec 32 := 512#32
  let v498 : BitVec 32 := Scalar.muli arg9 c512_i32_159
  v498
def k0_off9 (i : grid0.Coords) (k0_t2 : Fin (k0_t2_loop i).trips) : Fin 3 → Nat :=
  let c0_160 : Index := 0#32
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let c1_i32_126 : BitVec 32 := 1#32
  let arg9 : BitVec 32 := Scf.iv v394 c1_i32_126 k0_t2
  let c512_i32_159 : BitVec 32 := 512#32
  let v498 : BitVec 32 := Scalar.muli arg9 c512_i32_159
  let v499 : BitVec 32 := v498
  let v500 : Index := Scalar.indexCast v499
  let c0_161 : Index := 0#32
  ![0, v500.toNat, 0]
def k0_off10 (i : grid0.Coords) (k0_t2 : Fin (k0_t2_loop i).trips) : Fin 3 → Nat :=
  let c0_163 : Index := 0#32
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let c1_i32_126 : BitVec 32 := 1#32
  let arg9 : BitVec 32 := Scf.iv v394 c1_i32_126 k0_t2
  let c512_i32_159 : BitVec 32 := 512#32
  let v498 : BitVec 32 := Scalar.muli arg9 c512_i32_159
  let v499 : BitVec 32 := v498
  let v504 : Index := Scalar.indexCast v499
  let c128_164 : Index := 128#32
  ![0, v504.toNat, 128]
def k0_off11 (i : grid0.Coords) (k0_t2 : Fin (k0_t2_loop i).trips) : Fin 3 → Nat :=
  let c0_176 : Index := 0#32
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let c1_i32_126 : BitVec 32 := 1#32
  let arg9 : BitVec 32 := Scf.iv v394 c1_i32_126 k0_t2
  let c512_i32_159 : BitVec 32 := 512#32
  let v498 : BitVec 32 := Scalar.muli arg9 c512_i32_159
  let v499 : BitVec 32 := v498
  let v548 : Index := Scalar.indexCast v499
  let c256_177 : Index := 256#32
  ![0, v548.toNat, 256]
def k0_off12 (i : grid0.Coords) (k0_t2 : Fin (k0_t2_loop i).trips) : Fin 3 → Nat :=
  let c0_179 : Index := 0#32
  let c0_i32_123 : BitVec 32 := 0#32
  let arg2 : BitVec 32 := BitVec.ofNat 32 (i 2).val
  let c128_i32_115 : BitVec 32 := 128#32
  let v372 : BitVec 32 := Scalar.muli arg2 c128_i32_115
  let c0_i32_117 : BitVec 32 := 0#32
  let v374 : BitVec 1 := Scalar.cmpi .sgt v372 c0_i32_117
  let v375 : BitVec 32 := Scalar.extui v374
  let c0_i32_118 : BitVec 32 := 0#32
  let v376 : BitVec 1 := Scalar.cmpi .slt v372 c0_i32_118
  let v377 : BitVec 32 := Scalar.extui v376
  let v378 : BitVec 32 := Scalar.subi v375 v377
  let c512_i32_116 : BitVec 32 := 512#32
  let c0_i32_119 : BitVec 32 := 0#32
  let v379 : BitVec 1 := Scalar.cmpi .sgt c512_i32_116 c0_i32_119
  let v380 : BitVec 32 := Scalar.extui v379
  let c0_i32_120 : BitVec 32 := 0#32
  let v381 : BitVec 1 := Scalar.cmpi .slt c512_i32_116 c0_i32_120
  let v382 : BitVec 32 := Scalar.extui v381
  let v383 : BitVec 32 := Scalar.subi v380 v382
  let v384 : BitVec 1 := Scalar.cmpi .ne v378 v383
  let v385 : BitVec 32 := Scalar.remsi v372 c512_i32_116
  let c0_i32_121 : BitVec 32 := 0#32
  let v386 : BitVec 1 := Scalar.cmpi .ne v385 c0_i32_121
  let v387 : BitVec 1 := Scalar.andi v384 v386
  let v373 : BitVec 32 := Scalar.divsi v372 c512_i32_116
  let c1_i32_122 : BitVec 32 := 1#32
  let v388 : BitVec 32 := Scalar.subi v373 c1_i32_122
  let v389 : BitVec 32 := Scalar.select v387 v388 v373
  let v390 : BitVec 32 := Scalar.subi v389 c0_i32_123
  let c1_i32_124 : BitVec 32 := 1#32
  let v392 : BitVec 32 := Scalar.divsi v390 c1_i32_124
  let v393 : BitVec 32 := Scalar.muli v392 c1_i32_124
  let v394 : BitVec 32 := Scalar.addi c0_i32_123 v393
  let c1_i32_126 : BitVec 32 := 1#32
  let arg9 : BitVec 32 := Scf.iv v394 c1_i32_126 k0_t2
  let c512_i32_159 : BitVec 32 := 512#32
  let v498 : BitVec 32 := Scalar.muli arg9 c512_i32_159
  let v499 : BitVec 32 := v498
  let v552 : Index := Scalar.indexCast v499
  let c384_180 : Index := 384#32
  ![0, v552.toNat, 384]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2176x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S8x2064x4x2x64 : Shape := ⟨5, ![8, 2064, 4, 2, 64]⟩
abbrev S8x2064x4x128 : Shape := ⟨4, ![8, 2064, 4, 128]⟩
abbrev S64 : Shape := ⟨1, ![64]⟩
abbrev S4x128 : Shape := ⟨2, ![4, 128]⟩
abbrev S_ : Shape := ⟨0, ![]⟩
abbrev S8x2176x4x2x64 : Shape := ⟨5, ![8, 2176, 4, 2, 64]⟩
abbrev S8x2176x4x128 : Shape := ⟨4, ![8, 2176, 4, 128]⟩
abbrev S8x4x2x2176x2176 : Shape := ⟨5, ![8, 4, 2, 2176, 2176]⟩
abbrev S2176 : Shape := ⟨1, ![2176]⟩
abbrev S1x2176 : Shape := ⟨2, ![1, 2176]⟩
abbrev S2176x1 : Shape := ⟨2, ![2176, 1]⟩
abbrev S2176x2176 : Shape := ⟨2, ![2176, 2176]⟩
abbrev S8x4x2x2176 : Shape := ⟨4, ![8, 4, 2, 2176]⟩
abbrev S8x4x2x2176x1 : Shape := ⟨5, ![8, 4, 2, 2176, 1]⟩
abbrev S8x4x1x2176x2176 : Shape := ⟨5, ![8, 4, 1, 2176, 2176]⟩
abbrev S8x4x2176x2176 : Shape := ⟨4, ![8, 4, 2176, 2176]⟩
abbrev S8x4x128x2176 : Shape := ⟨4, ![8, 4, 128, 2176]⟩
abbrev S8x2176x4 : Shape := ⟨3, ![8, 2176, 4]⟩
abbrev S8x2176x4x1 : Shape := ⟨4, ![8, 2176, 4, 1]⟩
abbrev S1x1x4x128 : Shape := ⟨4, ![1, 1, 4, 128]⟩
abbrev S8x2176x512 : Shape := ⟨3, ![8, 2176, 512]⟩

abbrev nBuf : Space → Nat
  | .hbm => 87
  | .vmem => 0
  | .smem => 0
  | _ => 0

abbrev bufTy : (tb : Table) → Fin (tcTables nBuf tb) → BufTy
  | .hbm, ⟨0, _⟩ => ⟨S8x2064x4x2x64, .f32⟩
  | .hbm, ⟨1, _⟩ => ⟨S8x2064x4x2x64, .f32⟩
  | .hbm, ⟨2, _⟩ => ⟨S8x2064x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S4x128, .f32⟩
  | .hbm, ⟨8, _⟩ => ⟨S_, .i32⟩
  | .hbm, ⟨9, _⟩ => ⟨S_, .f32⟩
  | .hbm, ⟨10, _⟩ => ⟨S8x2176x4x2x64, .f32⟩
  | .hbm, ⟨11, _⟩ => ⟨S_, .i32⟩
  | .hbm, ⟨12, _⟩ => ⟨S_, .f32⟩
  | .hbm, ⟨13, _⟩ => ⟨S8x2176x4x2x64, .f32⟩
  | .hbm, ⟨14, _⟩ => ⟨S_, .i32⟩
  | .hbm, ⟨15, _⟩ => ⟨S_, .f32⟩
  | .hbm, ⟨16, _⟩ => ⟨S8x2176x4x128, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x4x2x2176x2176, .f32⟩
  | .hbm, ⟨29, _⟩ => ⟨S_, .f32⟩
  | .hbm, ⟨30, _⟩ => ⟨S8x4x2x2176x2176, .f32⟩
  | .hbm, ⟨31, _⟩ => ⟨S8x4x2x2176x2176, .f32⟩
  | .hbm, ⟨32, _⟩ => ⟨S2176, .i32⟩
  | .hbm, ⟨33, _⟩ => ⟨S1x2176, .i32⟩
  | .hbm, ⟨34, _⟩ => ⟨S2176, .i32⟩
  | .hbm, ⟨35, _⟩ => ⟨S2176x1, .i32⟩
  | .hbm, ⟨36, _⟩ => ⟨S2176x2176, .i32⟩
  | .hbm, ⟨37, _⟩ => ⟨S2176x2176, .i32⟩
  | .hbm, ⟨38, _⟩ => ⟨S2176x2176, .i1⟩
  | .hbm, ⟨39, _⟩ => ⟨S_, .f32⟩
  | .hbm, ⟨40, _⟩ => ⟨S8x4x2x2176x2176, .i1⟩
  | .hbm, ⟨41, _⟩ => ⟨S8x4x2x2176x2176, .f32⟩
  | .hbm, ⟨42, _⟩ => ⟨S8x4x2x2176x2176, .f32⟩
  | .hbm, ⟨43, _⟩ => ⟨S_, .f32⟩
  | .hbm, ⟨44, _⟩ => ⟨S8x4x2x2176, .f32⟩
  | .hbm, ⟨45, _⟩ => ⟨S_, .f32⟩
  | .hbm, ⟨46, _⟩ => ⟨S8x4x2x2176, .f32⟩
  | .hbm, ⟨47, _⟩ => ⟨S8x4x2x2176, .f32⟩
  | .hbm, ⟨48, _⟩ => ⟨S8x4x2x2176x1, .f32⟩
  | .hbm, ⟨49, _⟩ => ⟨S8x4x2x2176x2176, .f32⟩
  | .hbm, ⟨50, _⟩ => ⟨S8x4x2x2176x2176, .f32⟩
  | .hbm, ⟨51, _⟩ => ⟨S8x4x2x2176x2176, .f32⟩
  | .hbm, ⟨52, _⟩ => ⟨S_, .f32⟩
  | .hbm, ⟨53, _⟩ => ⟨S8x4x2x2176, .f32⟩
  | .hbm, ⟨54, _⟩ => ⟨S8x4x2x2176x1, .f32⟩
  | .hbm, ⟨55, _⟩ => ⟨S8x4x2x2176x2176, .f32⟩
  | .hbm, ⟨56, _⟩ => ⟨S8x4x2x2176x2176, .f32⟩
  | .hbm, ⟨57, _⟩ => ⟨S8x4x1x2176x2176, .f32⟩
  | .hbm, ⟨58, _⟩ => ⟨S8x4x2176x2176, .f32⟩
  | .hbm, ⟨59, _⟩ => ⟨S8x4x1x2176x2176, .f32⟩
  | .hbm, ⟨60, _⟩ => ⟨S8x4x2176x2176, .f32⟩
  | .hbm, ⟨61, _⟩ => ⟨S8x4x2176x2176, .f32⟩
  | .hbm, ⟨62, _⟩ => ⟨S8x4x2176x2176, .f32⟩
  | .hbm, ⟨63, _⟩ => ⟨S8x4x2176x2176, .f32⟩
  | .hbm, ⟨64, _⟩ => ⟨S8x4x128x2176, .f32⟩
  | .hbm, ⟨65, _⟩ => ⟨S8x2176x4x128, .f32⟩
  | .hbm, ⟨66, _⟩ => ⟨S8x2176x4x128, .f32⟩
  | .hbm, ⟨67, _⟩ => ⟨S_, .f32⟩
  | .hbm, ⟨68, _⟩ => ⟨S8x2176x4, .f32⟩
  | .hbm, ⟨69, _⟩ => ⟨S8x2176x4x1, .f32⟩
  | .hbm, ⟨70, _⟩ => ⟨S_, .f32⟩
  | .hbm, ⟨71, _⟩ => ⟨S8x2176x4x1, .f32⟩
  | .hbm, ⟨72, _⟩ => ⟨S8x2176x4x1, .f32⟩
  | .hbm, ⟨73, _⟩ => ⟨S_, .f32⟩
  | .hbm, ⟨74, _⟩ => ⟨S8x2176x4x1, .f32⟩
  | .hbm, ⟨75, _⟩ => ⟨S8x2176x4x1, .f32⟩
  | .hbm, ⟨76, _⟩ => ⟨S8x2176x4x1, .f32⟩
  | .hbm, ⟨77, _⟩ => ⟨S8x2176x4x128, .f32⟩
  | .hbm, ⟨78, _⟩ => ⟨S8x2176x4x128, .f32⟩
  | .hbm, ⟨79, _⟩ => ⟨S1x1x4x128, .f32⟩
  | .hbm, ⟨80, _⟩ => ⟨S8x2176x4x128, .f32⟩
  | .hbm, ⟨81, _⟩ => ⟨S8x2176x4x128, .f32⟩
  | .hbm, ⟨82, _⟩ => ⟨S_, .f32⟩
  | .hbm, ⟨83, _⟩ => ⟨S8x2176x4x128, .f32⟩
  | .hbm, ⟨84, _⟩ => ⟨S8x2176x4x128, .f32⟩
  | .hbm, ⟨85, _⟩ => ⟨S8x2176x512, .f32⟩
  | .hbm, ⟨86, _⟩ => ⟨S8x2176x512, .bf16⟩
  | _, _ => ⟨S8x2064x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_call3_v0 : Ref sig .tc := ⟨.hbm, 40, rfl⟩
abbrev main_call3_v1 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Proof.Stick.lean ====
/- Stick-breaking attention: the step over a group of 256 keys, and the loop's trips as such steps. -/
module

public import proofs.«01_k».proof.Defs
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Stick
open Cert.KernelIdeal Cert.KernelIdeal.Gen

/-- A tile of scores: 128 rows against a group of 256 keys. -/
abbrev Tile := FVec Ideal S128x256 .f32
/-- What the groups carry down a sequence: per head the sum of the logarithms so far, and the weighted values so far. -/
abbrev Sums := Fin 8 → FVec Ideal S128x1 .f32
abbrev Accs := Fin 8 → FVec Ideal S128x128 .f32

/-- The pair of heads that head `h` is in. -/
def pair (h : Fin 8) : Fin 4 := ⟨h.val / 2, by omega⟩

/-- The even and the odd head of a pair. -/
def even (p : Fin 4) : Fin 8 := ⟨2 * p.val, by omega⟩
def odd (p : Fin 4) : Fin 8 := ⟨2 * p.val + 1, by omega⟩

theorem slices_half (n : ℕ) (hn : n < 2) : S256x256.Slices ![128 * n, 0] S128x256 := by
  interval_cases n <;> decide
theorem slices_half' (n : ℕ) (hn : n < 2) : S256x128.Slices ![128 * n, 0] S128x128 := by
  interval_cases n <;> decide
theorem slices_head (h : Fin 8) : S1024x256.Slices ![128 * h.val, 0] S128x256 := by
  fin_cases h <;> decide

/-- Head `h`'s scores against a group of keys. -/
def scores (q : Fin 4 → FVec Ideal S256x128 .bf16) (k : Fin 4 → Vec Ideal S1x256x128 .bf16) (h : Fin 8) : Tile :=
  extractStridedSlice S128x256 ![128 * (h.val % 2), 0] (k0_pay12 (q (pair h)) (k (pair h))) (slices_half _ (by omega))

/-- The logarithm of the part of the stick that a score leaves. -/
def keep (z : Tile) : Tile := k0_pay26 z
/-- The logarithm of the part that it breaks off. -/
def brk (z : Tile) : Tile := k0_pay27 z

/-- The eight heads' tiles on top of one another. -/
def stack (lk : Fin 8 → Tile) : FVec Ideal S1024x256 .f32 :=
  concatenate S1024x256 0 [⟨S128x256, lk 0⟩, ⟨S128x256, lk 1⟩, ⟨S128x256, lk 2⟩, ⟨S128x256, lk 3⟩, ⟨S128x256, lk 4⟩, ⟨S128x256, lk 5⟩, ⟨S128x256, lk 6⟩, ⟨S128x256, lk 7⟩] concatenates_S128x256_S128x256_S128x256_S128x256_S128x256_S128x256_S128x256_S128x256_S1024x256_d0

/-- Head `h`'s sums to the right inside the group. -/
def cum (l2 : FVec Ideal S512x256 .bf16) (lk : Fin 8 → Tile) (h : Fin 8) : Tile :=
  extractStridedSlice S128x256 ![128 * h.val, 0] (k0_pay42 l2 (stack lk)) (slices_head h)

/-- The sums after the group. -/
def newSums (l2 : FVec Ideal S512x256 .bf16) (lk : Fin 8 → Tile) (c : Sums) : Sums := fun h =>
  addf (addf (c h) (extractStridedSlice S128x1 ![0, 0] (cum l2 lk h) slices_S128x256_o0_0_S128x1))
    (extractStridedSlice S128x1 ![0, 0] (lk h) slices_S128x256_o0_0_S128x1)

/-- The group's weights. -/
def weights (l2 : FVec Ideal S512x256 .bf16) (lk ls : Fin 8 → Tile) (c : Sums) (h : Fin 8) : Tile :=
  exp (addf (ls h) (addf (broadcastTo S128x256 (c h) broadcasts_S128x1_S128x256) (cum l2 lk h)))

/-- The weighted values after the group. -/
def newAccs (w : Fin 8 → Tile) (v : Fin 4 → Vec Ideal S1x256x128 .bf16) (a : Accs) : Accs := fun h =>
  addf (a h) (extractStridedSlice S128x128 ![128 * (h.val % 2), 0] (k0_pay67 (w (even (pair h))) (w (odd (pair h))) (v (pair h))) (slices_half' _ (by omega)))

/-- A tile where the group's mask holds, and zero elsewhere. -/
def masked (mk : IVec S128x256 1) (z : Tile) : Tile := select mk z (broadcast S128x256 (Scalar.ofBits (F := Ideal) .f32 0x00000000#32))

/-- The loop's carried tuple. -/
abbrev St := FVec Ideal S128x1 .f32 × FVec Ideal S128x1 .f32 × FVec Ideal S128x1 .f32 × FVec Ideal S128x1 .f32 × FVec Ideal S128x1 .f32 × FVec Ideal S128x1 .f32 × FVec Ideal S128x1 .f32 × FVec Ideal S128x1 .f32
  × FVec Ideal S128x128 .f32 × FVec Ideal S128x128 .f32 × FVec Ideal S128x128 .f32 × FVec Ideal S128x128 .f32 × FVec Ideal S128x128 .f32 × FVec Ideal S128x128 .f32 × FVec Ideal S128x128 .f32 × FVec Ideal S128x128 .f32

def sums (s : St) : Sums := ![s.1, s.2.1, s.2.2.1, s.2.2.2.1, s.2.2.2.2.1, s.2.2.2.2.2.1, s.2.2.2.2.2.2.1, s.2.2.2.2.2.2.2.1]
def accs (s : St) : Accs := ![s.2.2.2.2.2.2.2.2.1, s.2.2.2.2.2.2.2.2.2.1, s.2.2.2.2.2.2.2.2.2.2.1, s.2.2.2.2.2.2.2.2.2.2.2.1,
  s.2.2.2.2.2.2.2.2.2.2.2.2.1, s.2.2.2.2.2.2.2.2.2.2.2.2.2.1, s.2.2.2.2.2.2.2.2.2.2.2.2.2.2.1, s.2.2.2.2.2.2.2.2.2.2.2.2.2.2.2]

variable (c : Dev nD) (i : grid0.Coords) (arg2 : Memref sig .tc .vmem S1x128x512 .bf16) (harg2 : arg2.IsWhole) (arg3 : Memref sig .tc .vmem S1x2176x512 .bf16) (harg3 : arg3.IsWhole) (arg4 : Memref sig .tc .vmem S1x2176x512 .bf16) (harg4 : arg4.IsWhole) (arg5 : Memref sig .tc .vmem S1x128x512 .bf16) (harg5 : arg5.IsWhole)

/-- The four pairs' columns of the group of keys (or values) that a trip takes. -/
def cols {a : Memref sig .tc .vmem S1x2176x512 .bf16} (X : BufTy.Contents (Elt Ideal) a.view.ty) (k : Fin (k0_t1_loop i).trips) : Fin 4 → Vec Ideal S1x256x128 .bf16 :=
  ![a.view.readAt (Elt Ideal) (Rect.unit (s := S1x2176x512) (k0_off5 i k) S1x256x128.size (k0_off5_inb i k)).toLoadRect X,
    a.view.readAt (Elt Ideal) (Rect.unit (s := S1x2176x512) (k0_off6 i k) S1x256x128.size (k0_off6_inb i k)).toLoadRect X,
    a.view.readAt (Elt Ideal) (Rect.unit (s := S1x2176x512) (k0_off7 i k) S1x256x128.size (k0_off7_inb i k)).toLoadRect X,
    a.view.readAt (Elt Ideal) (Rect.unit (s := S1x2176x512) (k0_off8 i k) S1x256x128.size (k0_off8_inb i k)).toLoadRect X]

set_option maxHeartbeats 2000000 in
/-- One trip is the group's step. -/
theorem trip_sums (v244 v245 v246 v247 : FVec Ideal S256x128 .bf16) (v254 : FVec Ideal S512x256 .bf16) (v603 : BitVec 32) (X3 : BufTy.Contents (Elt Ideal) arg3.view.ty) (X4 : BufTy.Contents (Elt Ideal) arg4.view.ty) (k : Fin (k0_t1_loop i).trips) (s : St) :
    sums (tripR_k0_t1 (F := Ideal) Variants.none c none i arg2 harg2 arg3 harg3 arg4 harg4 arg5 harg5 v244 v245 v246 v247 v254 v603 X3 X4 k s)
      = newSums v254 (fun h => keep (scores ![v244, v245, v246, v247] (cols i X3 k) h)) (sums s) := by
  unfold tripR_k0_t1 trip_k0_t1
  funext h
  fin_cases h <;> rfl

set_option maxHeartbeats 2000000 in
theorem trip_accs (v244 v245 v246 v247 : FVec Ideal S256x128 .bf16) (v254 : FVec Ideal S512x256 .bf16) (v603 : BitVec 32) (X3 : BufTy.Contents (Elt Ideal) arg3.view.ty) (X4 : BufTy.Contents (Elt Ideal) arg4.view.ty) (k : Fin (k0_t1_loop i).trips) (s : St) :
    accs (tripR_k0_t1 (F := Ideal) Variants.none c none i arg2 harg2 arg3 harg3 arg4 harg4 arg5 harg5 v244 v245 v246 v247 v254 v603 X3 X4 k s)
      = newAccs (weights v254 (fun h => keep (scores ![v244, v245, v246, v247] (cols i X3 k) h)) (fun h => brk (scores ![v244, v245, v246, v247] (cols i X3 k) h)) (sums s))
        (cols i X4 k) (accs s) := by
  unfold tripR_k0_t1 trip_k0_t1
  funext h
  fin_cases h <;> rfl
end Cert.Stick
-- ==== Proof.StickTop.lean ====
/- Stick-breaking attention: the queries, the top group of keys, and what a row of the grid starts from. -/
module

public import proofs.«01_k».proof.Defs
public import proofs.«01_k».proof.Proof.Gen.KernelIdeal.Value
public import Idealize.ShloMosaic.Lib.Pipeline.ValueKit
public import Idealize.ShloMosaic.Lib.Pointwise
public import proofs.«01_k».proof.Proof.Stick

@[expose] public section

set_option maxRecDepth 16384

noncomputable section

open Idealize.ShloMosaic Idealize.ShloMosaic.TcCoe Idealize.SL.Sem
open Idealize.ShloMosaic.Pipeline (Dat)

namespace Cert.Stick
open Cert.KernelIdeal Cert.KernelIdeal.Gen

variable (c : Dev nD) (i : grid0.Coords) (arg2 : Memref sig .tc .vmem S1x128x512 .bf16) (harg2 : arg2.IsWhole) (arg3 : Memref sig .tc .vmem S1x2176x512 .bf16) (harg3 : arg3.IsWhole) (arg4 : Memref sig .tc .vmem S1x2176x512 .bf16) (harg4 : arg4.IsWhole) (arg5 : Memref sig .tc .vmem S1x128x512 .bf16) (harg5 : arg5.IsWhole)

/-- What the two loops leave: the second takes no trip. -/
def ends (v244 v245 v246 v247 : FVec Ideal S256x128 .bf16) (v254 : FVec Ideal S512x256 .bf16) (v603 v603' v608 : BitVec 32) (X3 : BufTy.Contents (Elt Ideal) arg3.view.ty) (X4 : BufTy.Contents (Elt Ideal) arg4.view.ty) (init : St) (n n' : ℕ) : St :=
  st_k0_t2 (F := Ideal) Variants.none c none i arg2 harg2 arg3 harg3 arg4 harg4 arg5 harg5 v244 v245 v246 v247 v254 v603' v608 X3 X4
    (st_k0_t1 (F := Ideal) Variants.none c none i arg2 harg2 arg3 harg3 arg4 harg4 arg5 harg5 v244 v245 v246 v247 v254 v603 X3 X4 init n) n'

/-- The lanes' numbers. -/
abbrev lanes : IVec S128x128 32 := iota .tc S128x128 32 [1] iota_S128x128_d1_w32

/-- The four pairs' queries: the even head's rows above the odd head's, each zero on the other's lanes. -/
def queries (x0 : Vec Ideal S1x128x512 .bf16) : Fin 4 → FVec Ideal S256x128 .bf16 :=
  ![k0_pay160 (k0_pay139 x0) (k0_pay144 lanes (k0_pay140 x0) 64#32 k0_pay141 k0_pay142 k0_pay143),
    k0_pay161 (k0_pay147 (k0_pay145 (k0_pay138 x0)) (k0_pay146 lanes) 0#32) (k0_pay148 (k0_pay138 x0) lanes),
    k0_pay162 (k0_pay152 lanes (k0_pay149 (k0_pay138 x0)) 64#32 (k0_pay150 lanes) (k0_pay151 lanes) 1#1)
      (k0_pay155 (k0_pay153 (k0_pay138 x0)) (k0_pay154 lanes) (FloatOps.ofBits FTy.f32 0#32)),
    k0_pay163 lanes (k0_pay156 (k0_pay138 x0) lanes) (k0_pay157 (k0_pay138 x0)) 64#32 (k0_pay158 lanes) (k0_pay159 lanes) 1#32 0#1]

/-- The four pairs' columns of the top group. -/
def topCols (x : Vec Ideal S1x2176x512 .bf16) : Fin 4 → Vec Ideal S1x256x128 .bf16 :=
  ![View.ld x (Rect.unit (s := S1x2176x512) (k0_off1 i) S1x256x128.size (k0_off1_inb i)),
    View.ld x (Rect.unit (s := S1x2176x512) (k0_off2 i) S1x256x128.size (k0_off2_inb i)),
    View.ld x (Rect.unit (s := S1x2176x512) (k0_off3 i) S1x256x128.size (k0_off3_inb i)),
    View.ld x (Rect.unit (s := S1x2176x512) (k0_off4 i) S1x256x128.size (k0_off4_inb i))]

def zeroSums : Sums := fun _ => k0_pay165
def zeroAccs : Accs := fun _ => k0_pay173

/-- The top group's logarithms. -/
def topKeep (x0 : Vec Ideal S1x128x512 .bf16) (x1 : Vec Ideal S1x2176x512 .bf16) (h : Fin 8) : Tile :=
  masked (k0_pay181 (BitVec.ofNat 32 (i 1).val)) (keep (scores (queries x0) (topCols i x1) h))

/-- The top group's weights. -/
def topWeights (x0 : Vec Ideal S1x128x512 .bf16) (x1 : Vec Ideal S1x2176x512 .bf16) (h : Fin 8) : Tile :=
  masked (k0_pay181 (BitVec.ofNat 32 (i 1).val))
    (weights k0_pay164 (topKeep i x0 x1) (fun h => brk (scores (queries x0) (topCols i x1) h)) zeroSums h)

/-- The heads' weighted values, even and odd heads on the two halves of a pair's lanes. -/
def join (s : St) : FVec Ideal S1x128x512 .bf16 := k0_pay11 (s.2.2.2.2.2.2.2.2.1) (s.2.2.2.2.2.2.2.2.2.1) (s.2.2.2.2.2.2.2.2.2.2.1) (s.2.2.2.2.2.2.2.2.2.2.2.1) (s.2.2.2.2.2.2.2.2.2.2.2.2.1) (s.2.2.2.2.2.2.2.2.2.2.2.2.2.1) (s.2.2.2.2.2.2.2.2.2.2.2.2.2.2.1) (s.2.2.2.2.2.2.2.2.2.2.2.2.2.2.2)
end Cert.Stick
-- ==== Proof.StickOut.lean ====
/- Stick-breaking attention: what a step of the grid writes, in terms of the steps over groups of keys. -/
module

public import proofs.«01_k».proof.Defs
public import proofs.«01_k».proof.Proof.Gen.KernelIdeal.Value
public import Idealize.ShloMosaic.Lib.Pipeline.ValueKit
public import Idealize.ShloMosaic.Lib.Pointwise
public import proofs.«01_k».proof.Proof.StickTop

@[expose] public section

set_option maxRecDepth 16384

noncomputable section

open Idealize.ShloMosaic Idealize.ShloMosaic.TcCoe Idealize.SL.Sem
open Idealize.ShloMosaic.Pipeline (Dat)

namespace Cert.Stick
open Cert.KernelIdeal Cert.KernelIdeal.Gen

variable (c : Dev nD) (i : grid0.Coords) (arg2 : Memref sig .tc .vmem S1x128x512 .bf16) (harg2 : arg2.IsWhole) (arg3 : Memref sig .tc .vmem S1x2176x512 .bf16) (harg3 : arg3.IsWhole) (arg4 : Memref sig .tc .vmem S1x2176x512 .bf16) (harg4 : arg4.IsWhole) (arg5 : Memref sig .tc .vmem S1x128x512 .bf16) (harg5 : arg5.IsWhole)

set_option maxHeartbeats 2000000 in
/-- What a step of the grid writes, in terms of the group's steps. -/
theorem out_eq (x0 : Vec Ideal S1x128x512 .bf16) (x1 : Vec Ideal S1x2176x512 .bf16) (x2 : Vec Ideal S1x2176x512 .bf16) :
    ∃ (w w' w'' : BitVec 32) (init : St), sums init = newSums k0_pay164 (topKeep i x0 x1) zeroSums
      ∧ accs init = newAccs (topWeights i x0 x1) (topCols i x2) zeroAccs
      ∧ out0_A_3 c i arg2 harg2 arg3 harg3 arg4 harg4 arg5 harg5 x0 x1 x2
        = join (ends c i arg2 harg2 arg3 harg3 arg4 harg4 arg5 harg5 (queries x0 0) (queries x0 1) (queries x0 2) (queries x0 3) k0_pay164 w w' w''
            (harg3.unread x1) (harg4.unread x2) init (k0_t1_loop i).trips (k0_t2_loop i).trips) := by
  unfold out0_A_3 kernelRun0_A
  frame_out
  generalize hT : st_k0_t2 (F := Ideal) Variants.none c none i _ _ _ _ _ _ _ _ _ _ _ _ _ _ _ _ _ _ _ = T
  generalize hS : st_k0_t1 (F := Ideal) Variants.none c none i _ _ _ _ _ _ _ _ _ _ _ _ _ _ _ _ _ _ = S at hT
  generalize hI : (Prod.mk _ _ : St) = I at hS
  generalize hq0 : k0_pay160 (F := Ideal) _ _ = q0 at hT hS
  generalize hq1 : k0_pay161 (F := Ideal) _ _ = q1 at hT hS
  generalize hq2 : k0_pay162 (F := Ideal) _ _ = q2 at hT hS
  generalize hq3 : k0_pay163 (F := Ideal) _ _ _ _ _ _ _ _ = q3 at hT hS
  generalize hn : Scf.trips _ _ _ = n at hS
  generalize hn' : Scf.trips _ _ _ = n' at hT
  generalize hw2 : Scalar.addi _ _ = w2 at hT
  generalize hw : Scalar.select _ _ _ = w at hT hS
  clear hw hw2
  have e0 : queries x0 0 = q0 := hq0
  have e1 : queries x0 1 = q1 := hq1
  have e2 : queries x0 2 = q2 := hq2
  have e3 : queries x0 3 = q3 := hq3
  have en : (k0_t1_loop i).trips = n := hn
  have en' : (k0_t2_loop i).trips = n' := hn'
  clear hq0 hq1 hq2 hq3 hn hn'
  refine ⟨w, w, w2, I, ?hs, ?ha, ?he⟩
  case he =>
    clear hI
    rw [e0, e1, e2, e3, en, en']
    unfold ends join
    subst hS
    subst hT
    exact rfl
  case hs => clear hT hS; subst hI; clear e0 e1 e2 e3 en en'; funext h; fin_cases h <;> rfl
  case ha => clear hT hS; subst hI; clear e0 e1 e2 e3 en en'; funext h; fin_cases h <;> rfl
end Cert.Stick
-- ==== Proof.StickMath.lean ====
/- Stick-breaking attention: the arithmetic of the logarithms, and the sums a sequence's groups of keys build up. -/
module

public import Idealize.ShloMosaic.Lib.Pointwise

@[expose] public section

noncomputable section

open Idealize.ShloMosaic

namespace Cert.Stick

/-- The logarithm of what a score leaves of the stick, as the kernel forms it. -/
def kp (z : EReal) : EReal :=
  Ideal.log (Ideal.div 1 (1 + Ideal.exp (0 - FloatOps.absf (F := Ideal) (φ := .f32) z))) - max z 0

/-- The softplus, as the reference forms it. -/
def sp (y : EReal) : EReal := max y 0 + Ideal.log1p (Ideal.exp (-(FloatOps.absf (F := Ideal) (φ := .f32) y)))

theorem log_one : Ideal.log 1 = 0 := by
  show Ideal.log ((1 : ℝ) : EReal) = 0
  rw [Ideal.log_coe, if_neg (by norm_num), Real.log_one, EReal.coe_zero]

theorem div_one : Ideal.div 1 1 = 1 := by
  show Ideal.div 1 ((1 : ℝ) : EReal) = 1
  rw [Ideal.div_coe one_ne_zero]
  norm_num

theorem log1p_zero : Ideal.log1p 0 = 0 := by
  unfold Ideal.log1p
  rw [add_zero, log_one]

theorem kp_top : kp ⊤ = ⊥ := by
  unfold kp
  simp [FloatOps.absf, div_one, log_one]

theorem kp_bot : kp ⊥ = 0 := by
  unfold kp
  simp [FloatOps.absf, div_one, log_one]

theorem sp_top : sp ⊤ = ⊤ := by
  unfold sp
  simp [FloatOps.absf, log1p_zero]

theorem sp_bot : sp ⊥ = 0 := by
  unfold sp
  simp [FloatOps.absf, log1p_zero]

theorem abs_coe (z : ℝ) : FloatOps.absf (F := Ideal) (φ := .f32) (z : EReal) = ((|z| : ℝ) : EReal) := by
  show max (z : EReal) (-(z : EReal)) = _
  rw [← EReal.coe_neg, ← EReal.coe_strictMono.monotone.map_max]
  rfl

theorem max_coe (z : ℝ) : max (z : EReal) 0 = ((max z 0 : ℝ) : EReal) := by
  rw [← EReal.coe_zero, ← EReal.coe_strictMono.monotone.map_max]

theorem kp_coe (z : ℝ) : kp z = ((-Real.log (1 + Real.exp (-|z|)) - max z 0 : ℝ) : EReal) := by
  have h : (0 : ℝ) < 1 + Real.exp (-|z|) := by positivity
  unfold kp
  rw [abs_coe, max_coe, zero_sub, ← EReal.coe_neg, Ideal.exp_coe, ← EReal.coe_one, ← EReal.coe_add, Ideal.div_coe h.ne', ← EReal.coe_mul,
    Ideal.log_coe, if_neg (by simp; positivity), one_mul, one_div, Real.log_inv, ← EReal.coe_sub]

theorem sp_coe (z : ℝ) : sp z = ((max z 0 + Real.log (1 + Real.exp (-|z|)) : ℝ) : EReal) := by
  have h : (0 : ℝ) < 1 + Real.exp (-|z|) := by positivity
  unfold sp Ideal.log1p
  rw [abs_coe, max_coe, ← EReal.coe_neg, Ideal.exp_coe, ← EReal.coe_one, ← EReal.coe_add, Ideal.log_coe, if_neg (not_le.mpr h), ← EReal.coe_add]

/-- What a score leaves: the two forms agree everywhere. -/
theorem kp_eq (z : EReal) : kp z = -(sp z) := by
  induction z using EReal.rec with
  | bot => rw [kp_bot, sp_bot, neg_zero]
  | top => rw [kp_top, sp_top, EReal.neg_top]
  | coe z => rw [kp_coe, sp_coe, ← EReal.coe_neg]; congr 1; ring

theorem kp_nonpos (z : EReal) : kp z ≤ 0 := by
  induction z using EReal.rec with
  | bot => rw [kp_bot]
  | top => rw [kp_top]; exact bot_le
  | coe z =>
    rw [kp_coe, ← EReal.coe_zero, EReal.coe_le_coe_iff]
    have h : 0 ≤ Real.log (1 + Real.exp (-|z|)) := Real.log_nonneg (by linarith [Real.exp_pos (-|z|)])
    linarith [le_max_right z 0]

/-- The weight: the two forms agree, whatever the sum `S` of the logarithms to the right. -/
theorem weight_eq (z S : EReal) (hS : S ≤ 0) :
    Ideal.exp (kp z + z + S) = Ideal.exp (-(sp (-z)) + ((kp z + S) - kp z)) := by
  induction z using EReal.rec with
  | bot =>
    rw [EReal.neg_bot, sp_top, EReal.neg_top, EReal.bot_add, EReal.add_bot, EReal.bot_add]
  | top =>
    rw [EReal.neg_top, sp_bot, kp_top, EReal.bot_add, EReal.bot_add, EReal.bot_sub, EReal.add_bot]
  | coe z =>
    have e : kp z + (z : EReal) = -(sp (-(z : EReal))) := by
      rw [← EReal.coe_neg, kp_coe, sp_coe, ← EReal.coe_neg, ← EReal.coe_add, abs_neg]
      congr 1
      rcases le_total z 0 with h | h
      · rw [max_eq_right h, max_eq_left (by linarith : 0 ≤ -z)]; ring
      · rw [max_eq_left h, max_eq_right (by linarith : -z ≤ 0)]; ring
    rw [e]
    congr 2
    rw [kp_coe]
    induction S using EReal.rec with
    | bot => rw [EReal.add_bot, EReal.bot_sub]
    | top => exact absurd hS (by simp)
    | coe S => rw [← EReal.coe_add, ← EReal.coe_sub]; congr 1; ring

/-! ## Groups of 256 keys -/

theorem group_sum (f : ℕ → EReal) (a : ℕ) : ∑ x : Fin 256, f (a + x.val) = ∑ s ∈ Finset.Ico a (a + 256), f s := by
  rw [Finset.sum_Ico_eq_sum_range, Nat.add_sub_cancel_left, Fin.sum_univ_eq_sum_range (fun x => f (a + x)) 256]

theorem group_above (f : ℕ → EReal) (a j : ℕ) (hj : j < 256) :
    (∑ x : Fin 256, if j < x.val then f (a + x.val) else 0) = ∑ s ∈ Finset.Ico (a + j + 1) (a + 256), f s := by
  rw [Fin.sum_univ_eq_sum_range (fun x => if j < x then f (a + x) else 0) 256, ← Finset.sum_filter]
  have e : (Finset.range 256).filter (fun x => j < x) = Finset.Ico (j + 1) 256 := by
    ext x; simp only [Finset.mem_filter, Finset.mem_range, Finset.mem_Ico]; omega
  rw [e, Finset.sum_Ico_eq_sum_range, Finset.sum_Ico_eq_sum_range]
  have e2 : a + 256 - (a + j + 1) = 256 - (j + 1) := by omega
  rw [e2]
  exact Finset.sum_congr rfl fun x _ => congrArg f (by omega)

/-- The logarithms to the right of a key, its group's and those carried in. -/
theorem step_between (f : ℕ → EReal) (a j : ℕ) (hj : j < 256) (ha : a + 256 ≤ 2176) (c : EReal) (hc : c = ∑ s ∈ Finset.Ico (a + 256) 2176, f s) :
    c + (∑ x : Fin 256, if j < x.val then f (a + x.val) else 0) = ∑ s ∈ Finset.Ico (a + j + 1) 2176, f s := by
  rw [group_above f a j hj, hc, add_comm, Finset.sum_Ico_consecutive f (by omega) ha]

/-- The logarithms carried out of a group. -/
theorem step_sum (f : ℕ → EReal) (a : ℕ) (ha : a + 256 ≤ 2176) (c : EReal) (hc : c = ∑ s ∈ Finset.Ico (a + 256) 2176, f s) :
    c + (∑ x : Fin 256, if 0 < x.val then f (a + x.val) else 0) + f a = ∑ s ∈ Finset.Ico a 2176, f s := by
  rw [step_between f a 0 (by omega) ha c hc, add_comm, Finset.sum_eq_sum_Ico_succ_bot (by omega : a < 2176)]

/-- The weighted values carried out of a group. -/
theorem step_acc (g : ℕ → EReal) (a : ℕ) (ha : a + 256 ≤ 2176) (c : EReal) (hc : c = ∑ s ∈ Finset.Ico (a + 256) 2176, g s) :
    c + (∑ x : Fin 256, g (a + x.val)) = ∑ s ∈ Finset.Ico a 2176, g s := by
  rw [group_sum g a, hc, add_comm, Finset.sum_Ico_consecutive g (by omega) ha]

/-! ## A row: the keys before `t`, from the key `n` on -/

/-- A key's logarithm. -/
def lkm (z : ℕ → EReal) (t n s : ℕ) : EReal := if n ≤ s ∧ s < t then kp (z s) else 0

/-- A key's weight. -/
def wt (z : ℕ → EReal) (t n s : ℕ) : EReal :=
  if n ≤ s ∧ s < t then Ideal.exp (kp (z s) + z s + ∑ j ∈ Finset.Ico (s + 1) 2176, lkm z t n j) else 0

theorem lkm_nonpos (z : ℕ → EReal) (t n s : ℕ) : lkm z t n s ≤ 0 := by
  unfold lkm
  split
  · exact kp_nonpos _
  · exact le_rfl

theorem lkm_ne_top (z : ℕ → EReal) (t n s : ℕ) : lkm z t n s ≠ ⊤ := fun h => by
  have := lkm_nonpos z t n s
  rw [h] at this
  exact absurd this (by simp)

/-- Nothing is carried into the top group. -/
theorem above_lkm (z : ℕ → EReal) (t n b : ℕ) (h : t ≤ b ∨ 2176 ≤ b) : (0 : EReal) = ∑ s ∈ Finset.Ico b 2176, lkm z t n s := by
  refine (Finset.sum_eq_zero fun s hs => ?_).symm
  rw [Finset.mem_Ico] at hs
  exact if_neg (by omega)

theorem above_wt (z V : ℕ → EReal) (t n b : ℕ) (h : t ≤ b ∨ 2176 ≤ b) : (0 : EReal) = ∑ s ∈ Finset.Ico b 2176, wt z t n s * V s := by
  refine (Finset.sum_eq_zero fun s hs => ?_).symm
  rw [Finset.mem_Ico] at hs
  unfold wt
  rw [if_neg (by omega), zero_mul]

/-- From the nominal start on, the lower end of the top group's mask does not show. -/
theorem nominal_lkm (z : ℕ → EReal) (t n a : ℕ) (h : a ≤ n) (hn : n ≤ 2176) :
    ∑ s ∈ Finset.Ico a 2176, lkm z t n s = ∑ s ∈ Finset.Ico n 2176, lkm z t 0 s := by
  rw [← Finset.sum_Ico_consecutive _ h hn, Finset.sum_eq_zero, zero_add]
  · refine Finset.sum_congr rfl fun s hs => ?_
    rw [Finset.mem_Ico] at hs
    unfold lkm
    simp only [hs.1, Nat.zero_le]
  · intro s hs
    rw [Finset.mem_Ico] at hs
    exact if_neg (by omega)

theorem nominal_wt (z V : ℕ → EReal) (t n a : ℕ) (h : a ≤ n) (hn : n ≤ 2176) :
    ∑ s ∈ Finset.Ico a 2176, wt z t n s * V s = ∑ s ∈ Finset.Ico n 2176, wt z t 0 s * V s := by
  rw [← Finset.sum_Ico_consecutive _ h hn, Finset.sum_eq_zero, zero_add]
  · refine Finset.sum_congr rfl fun s hs => ?_
    rw [Finset.mem_Ico] at hs
    have e : ∑ j ∈ Finset.Ico (s + 1) 2176, lkm z t n j = ∑ j ∈ Finset.Ico (s + 1) 2176, lkm z t 0 j := by
      refine Finset.sum_congr rfl fun j hj => ?_
      rw [Finset.mem_Ico] at hj
      unfold lkm
      have : n ≤ j := by omega
      simp only [this, Nat.zero_le]
    unfold wt
    rw [e]
    simp only [hs.1, Nat.zero_le]
  · intro s hs
    rw [Finset.mem_Ico] at hs
    unfold wt
    rw [if_neg (by omega), zero_mul]

/-- The reference's weight of a key before `t`. -/
theorem ref_weight (z : ℕ → EReal) (t s : ℕ) (h : s < t) (hs : s < 2176) :
    Ideal.exp (-(sp (-(z s))) + ((∑ j ∈ Finset.Ico s 2176, lkm z t 0 j) - lkm z t 0 s)) = wt z t 0 s := by
  have e : lkm z t 0 s = kp (z s) := if_pos ⟨Nat.zero_le _, h⟩
  unfold wt
  rw [if_pos ⟨Nat.zero_le _, h⟩, Finset.sum_eq_sum_Ico_succ_bot hs, e,
    weight_eq (z s) _ (Finset.sum_nonpos fun j _ => lkm_nonpos z t 0 j)]

end Cert.Stick
-- ==== Proof.StickPay.lean ====
/- Stick-breaking attention: a group of keys, read at a row and a lane. -/
module

public import proofs.«01_k».proof.Proof.Stick
public import proofs.«01_k».proof.Proof.StickMath

@[expose] public section

set_option maxRecDepth 16384

noncomputable section

open Idealize.ShloMosaic Idealize.ShloMosaic.TcCoe Idealize.SL.Sem

namespace Cert.Stick
open Cert.KernelIdeal Cert.KernelIdeal.Gen

theorem word_toInt (x : ℕ) (h : x < 2 ^ 31) : (BitVec.ofNat 32 x).toInt = x := by
  have e : (BitVec.ofNat 32 x).toNat = x := by rw [BitVec.toNat_ofNat]; exact Nat.mod_eq_of_lt (by omega)
  rw [BitVec.toInt_eq_toNat_of_lt (by rw [e]; omega), e]

theorem above (x j : Fin 256) :
    FloatOps.sitofp (F := Ideal) FTy.f32 (BitVec.setWidth 32 (IntOp.cmpi CmpIPredicate.sgt (BitVec.ofNat 32 x.val) (BitVec.ofNat 32 j.val)))
      = if j.val < x.val then (1 : EReal) else 0 := by
  have e : IntOp.cmpi CmpIPredicate.sgt (BitVec.ofNat 32 x.val) (BitVec.ofNat 32 j.val) = if j.val < x.val then 1#1 else 0#1 := by
    unfold IntOp.cmpi
    by_cases h : j.val < x.val <;> simp [BitVec.slt, word_toInt x.val (by omega), word_toInt j.val (by omega), h]
  have e1 : (BitVec.setWidth 32 1#1).toInt = 1 := by decide
  have e0 : (BitVec.setWidth 32 0#1).toInt = 0 := by decide
  rw [e]
  by_cases h : j.val < x.val
  · rw [if_pos h, if_pos h]
    show (((BitVec.setWidth 32 1#1).toInt : ℝ) : EReal) = 1
    rw [e1]; norm_num
  · rw [if_neg h, if_neg h]
    show (((BitVec.setWidth 32 0#1).toInt : ℝ) : EReal) = 0
    rw [e0]; norm_num

theorem scores_apply (q : Fin 4 → FVec Ideal S256x128 .bf16) (k : Fin 4 → Vec Ideal S1x256x128 .bf16) (h : Fin 8) (r : Fin 128) (j : Fin 256) :
    scores q k h (ix2 r j) = ∑ l : Fin 128, q (pair h) (ix2 ⟨128 * (h.val % 2) + r.val, by omega⟩ l) * k (pair h) (ix3 0 j l) := by
  unfold scores k0_pay12
  generalize q (pair h) = q
  generalize k (pair h) = k
  pointwise

theorem keep_apply (z : Tile) (y : S128x256.Idx) : keep z y = kp (z y) := by
  unfold keep k0_pay26 kp
  pointwise

theorem brk_apply (z : Tile) (y : S128x256.Idx) : brk z y = kp (z y) + z y := by
  rw [← keep_apply]
  unfold brk k0_pay27 keep
  pointwise

theorem stack_apply (lk : Fin 8 → Tile) (h : Fin 8) (r : Fin 128) (x : Fin 256) :
    stack lk (ix2 ⟨128 * h.val + r.val, by omega⟩ x) = lk h (ix2 r x) := by
  unfold stack
  pointwise
  obtain ⟨h, hh⟩ := h
  interval_cases h <;> simp (disch := omega) only [dif_pos, dif_neg] <;>
    exact congrArg (fun u => lk _ (ix2 u x)) (Fin.ext (by dsimp only; omega))

theorem cum0_apply (s : FVec Ideal S1024x256 .f32) (R : Fin 1024) (j : Fin 256) (hs : ∀ x, s (ix2 R x) ≠ ⊤) :
    k0_pay42 k0_pay164 s (ix2 R j) = ∑ x : Fin 256, if j.val < x.val then s (ix2 R x) else 0 := by
  unfold k0_pay42 k0_pay164
  pointwise
  rw [← Finset.sum_add_distrib]
  refine Finset.sum_congr rfl fun x _ => ?_
  rw [above]
  have e := hs x
  generalize s (ix2 R x) = u at e ⊢
  split
  · rw [mul_one, mul_one]
    induction u using EReal.rec with
    | bot => rfl
    | top => exact absurd rfl e
    | coe u => rw [← EReal.coe_sub, sub_self, EReal.coe_zero, add_zero]
  · rw [mul_zero, mul_zero, add_zero]

theorem cum_apply (l2 : FVec Ideal S512x256 .bf16) (lk : Fin 8 → Tile) (h : Fin 8) (r : Fin 128) (j : Fin 256) :
    cum l2 lk h (ix2 r j) = k0_pay42 l2 (stack lk) (ix2 ⟨128 * h.val + r.val, by omega⟩ j) := by
  unfold cum
  pointwise

theorem newSums_apply (l2 : FVec Ideal S512x256 .bf16) (lk : Fin 8 → Tile) (c : Sums) (h : Fin 8) (r : Fin 128) :
    newSums l2 lk c h (ix2 r 0) = c h (ix2 r 0) + cum l2 lk h (ix2 r 0) + lk h (ix2 r 0) := by
  unfold newSums
  generalize cum l2 lk h = e
  pointwise

theorem weights_apply (l2 : FVec Ideal S512x256 .bf16) (lk ls : Fin 8 → Tile) (c : Sums) (h : Fin 8) (r : Fin 128) (j : Fin 256) :
    weights l2 lk ls c h (ix2 r j) = Ideal.exp (ls h (ix2 r j) + (c h (ix2 r 0) + cum l2 lk h (ix2 r j))) := by
  unfold weights
  generalize cum l2 lk h = e
  pointwise

theorem newAccs_apply (w : Fin 8 → Tile) (v : Fin 4 → Vec Ideal S1x256x128 .bf16) (a : Accs) (h : Fin 8) (r : Fin 128) (d : Fin 128) :
    newAccs w v a h (ix2 r d) = a h (ix2 r d) + ∑ j : Fin 256, w h (ix2 r j) * v (pair h) (ix3 0 j d) := by
  unfold newAccs k0_pay67
  pointwise
  congr 1
  refine Finset.sum_congr rfl fun x _ => ?_
  congr 1
  rcases Nat.mod_two_eq_zero_or_one h.val with e | e
  · have e1 : even (pair h) = h := Fin.ext (by simp only [even, pair]; omega)
    rw [dif_pos (by omega), e1]
    exact congrArg (fun u => w h (ix2 u x)) (Fin.ext (by dsimp only; omega))
  · have e1 : odd (pair h) = h := Fin.ext (by simp only [odd, pair]; omega)
    rw [dif_neg (by omega), e1]
    exact congrArg (fun u => w h (ix2 u x)) (Fin.ext (by dsimp only; omega))

theorem masked_apply (mk : IVec S128x256 1) (z : Tile) (y : S128x256.Idx) :
    masked mk z y = if mk y = 1#1 then z y else 0 := by
  unfold masked
  pointwise
  simp only [Scalar.select]
  rfl
end Cert.Stick
-- ==== Proof.StickGrid.lean ====
/- Stick-breaking attention: the words of the grid and of the lanes. -/
module

public import proofs.«01_k».proof.Proof.StickTop
public import proofs.«01_k».proof.Proof.StickPay
public import Idealize.ShloMosaic.Lib.WholeRead

@[expose] public section

set_option maxRecDepth 16384

noncomputable section

open Idealize.ShloMosaic Idealize.ShloMosaic.TcCoe Idealize.SL.Sem

namespace Cert.Stick
open Cert.KernelIdeal Cert.KernelIdeal.Gen

theorem trips1 (i : grid0.Coords) : (k0_t1_loop i).trips = (i 1).val / 2 := by
  revert i; decide +kernel
theorem trips2 (i : grid0.Coords) : (k0_t2_loop i).trips = 0 := by
  revert i; decide +kernel

theorem off1_eq (i : grid0.Coords) : k0_off1 i = ![0, min (256 * ((i 1).val / 2)) 1920, 0] := by
  revert i; decide +kernel
theorem off2_eq (i : grid0.Coords) : k0_off2 i = ![0, min (256 * ((i 1).val / 2)) 1920, 128] := by
  revert i; decide +kernel
theorem off3_eq (i : grid0.Coords) : k0_off3 i = ![0, min (256 * ((i 1).val / 2)) 1920, 256] := by
  revert i; decide +kernel
theorem off4_eq (i : grid0.Coords) : k0_off4 i = ![0, min (256 * ((i 1).val / 2)) 1920, 384] := by
  revert i; decide +kernel
theorem off5_eq (i : grid0.Coords) (k : Fin (k0_t1_loop i).trips) : k0_off5 i k = ![0, 256 * ((i 1).val / 2 - 1 - k.val), 0] := by
  revert k; revert i; decide +kernel
theorem off6_eq (i : grid0.Coords) (k : Fin (k0_t1_loop i).trips) : k0_off6 i k = ![0, 256 * ((i 1).val / 2 - 1 - k.val), 128] := by
  revert k; revert i; decide +kernel
theorem off7_eq (i : grid0.Coords) (k : Fin (k0_t1_loop i).trips) : k0_off7 i k = ![0, 256 * ((i 1).val / 2 - 1 - k.val), 256] := by
  revert k; revert i; decide +kernel
theorem off8_eq (i : grid0.Coords) (k : Fin (k0_t1_loop i).trips) : k0_off8 i k = ![0, 256 * ((i 1).val / 2 - 1 - k.val), 384] := by
  revert k; revert i; decide +kernel

/-- The nominal start of a row's top group. -/
def nominal (a : BitVec 32) : BitVec 32 :=
  Scalar.muli (Scalar.select (Scalar.andi (Scalar.cmpi .ne (Scalar.subi (Scalar.extui (Scalar.cmpi .sgt (Scalar.muli a 128#32) 0#32)) (Scalar.extui (Scalar.cmpi .slt (Scalar.muli a 128#32) 0#32)))
      (Scalar.subi (Scalar.extui (Scalar.cmpi .sgt 256#32 0#32)) (Scalar.extui (Scalar.cmpi .slt 256#32 0#32))))
      (Scalar.cmpi .ne (Scalar.remsi (Scalar.muli a 128#32) 256#32) 0#32))
    (Scalar.subi (Scalar.divsi (Scalar.muli a 128#32) 256#32) 1#32) (Scalar.divsi (Scalar.muli a 128#32) 256#32)) 256#32

def maskOf (a n s : BitVec 32) : IVec S128x256 1 :=
  andi (cmpi .sge (addi (broadcast S128x256 s) (iota .tc S128x256 32 [1] iota_S128x256_d1_w32)) (broadcast S128x256 n))
    (cmpi .slt (addi (broadcast S128x256 s) (iota .tc S128x256 32 [1] iota_S128x256_d1_w32))
      (addi (broadcast S128x256 a) (iota .tc S128x256 32 [0] iota_S128x256_d0_w32)))

theorem mask_eq (a : BitVec 32) : k0_pay181 a = maskOf (Scalar.muli a 128#32) (nominal a) (Scalar.minsi (nominal a) 1920#32) := rfl

theorem nominal_word (i : Fin 17) : nominal (BitVec.ofNat 32 i.val) = BitVec.ofNat 32 (256 * (i.val / 2)) := by
  revert i; decide +kernel
theorem start_word (i : Fin 17) : Scalar.minsi (nominal (BitVec.ofNat 32 i.val)) 1920#32 = BitVec.ofNat 32 (min (256 * (i.val / 2)) 1920) := by
  revert i; decide +kernel
theorem row_word (i : Fin 17) : Scalar.muli (BitVec.ofNat 32 i.val) 128#32 = BitVec.ofNat 32 (128 * i.val) := by
  revert i; decide +kernel

theorem maskOf_apply (a n s : ℕ) (ha : a < 4096) (hn : n < 4096) (hs : s < 4096) (r : Fin 128) (x : Fin 256) :
    maskOf (BitVec.ofNat 32 a) (BitVec.ofNat 32 n) (BitVec.ofNat 32 s) (ix2 r x) = 1#1 ↔ n ≤ s + x.val ∧ s + x.val < a + r.val := by
  unfold maskOf
  pointwise
  have ex := x.isLt
  have er := r.isLt
  simp only [IntOp.addi, ← BitVec.ofNat_add]
  unfold IntOp.cmpi
  simp only [BitVec.slt, BitVec.sle, word_toInt (s + x.val) (by omega), word_toInt (a + r.val) (by omega), word_toInt n (by omega), Nat.cast_le, Nat.cast_lt]
  by_cases h1 : n ≤ s + x.val <;> by_cases h2 : s + x.val < a + r.val <;>
    simp only [h1, h2, decide_true, decide_false, and_true, and_false, iff_true, iff_false] <;> decide

theorem mask_apply (i : Fin 17) (r : Fin 128) (x : Fin 256) :
    k0_pay181 (BitVec.ofNat 32 i.val) (ix2 r x) = 1#1
      ↔ 256 * (i.val / 2) ≤ min (256 * (i.val / 2)) 1920 + x.val ∧ min (256 * (i.val / 2)) 1920 + x.val < 128 * i.val + r.val := by
  have hi := i.isLt
  rw [mask_eq, row_word, start_word, nominal_word]
  exact maskOf_apply _ _ _ (by omega) (by omega) (by omega) r x

theorem grid_words (i : grid0.Coords) (r : Fin 128) (x : Fin 256) :
    k0_pay181 (BitVec.ofNat 32 (i 1).val) (ix2 r x) = 1#1
      ↔ 256 * ((i 1).val / 2) ≤ min (256 * ((i 1).val / 2)) 1920 + x.val ∧ min (256 * ((i 1).val / 2)) 1920 + x.val < 128 * (i 1).val + r.val :=
  mask_apply (i 1) r x

/-- A pair's columns of the top group. -/
theorem topCols_apply (i : grid0.Coords) (x : Vec Ideal S1x2176x512 .bf16) (p : Fin 4) (j : Fin 256) (l : Fin 128) :
    topCols i x p (ix3 0 j l) = x (ix3 0 ⟨min (256 * ((i 1).val / 2)) 1920 + j.val, by omega⟩ ⟨128 * p.val + l.val, by omega⟩) := by
  unfold topCols
  fin_cases p <;> refine congrArg x (funext fun d => Fin.ext ?_)
  · have e := off1_eq i
    fin_cases d <;> simp [Rect.unit, e]
  · have e := off2_eq i
    fin_cases d <;> simp [Rect.unit, e]
  · have e := off3_eq i
    fin_cases d <;> simp [Rect.unit, e]
  · have e := off4_eq i
    fin_cases d <;> simp [Rect.unit, e]

/-- A pair's columns of a trip's group. -/
theorem cols_apply (i : grid0.Coords) {a : Memref sig .tc .vmem S1x2176x512 .bf16} (ha : a.IsWhole) (x : Vec Ideal S1x2176x512 .bf16)
    (k : Fin (k0_t1_loop i).trips) (hk : k.val < (i 1).val / 2) (hi : (i 1).val < 17) (p : Fin 4) (j : Fin 256) (l : Fin 128) :
    cols i (ha.unread x) k p (ix3 0 j l) = x (ix3 0 ⟨256 * ((i 1).val / 2 - 1 - k.val) + j.val, by omega⟩ ⟨128 * p.val + l.val, by omega⟩) := by
  unfold cols
  fin_cases p
  · refine (ha.readAt_unread x _ _).trans (congrArg x (funext fun d => Fin.ext ?_))
    have e := off5_eq i k
    fin_cases d <;> simp [Rect.unit, e]
  · refine (ha.readAt_unread x _ _).trans (congrArg x (funext fun d => Fin.ext ?_))
    have e := off6_eq i k
    fin_cases d <;> simp [Rect.unit, e]
  · refine (ha.readAt_unread x _ _).trans (congrArg x (funext fun d => Fin.ext ?_))
    have e := off7_eq i k
    fin_cases d <;> simp [Rect.unit, e]
  · refine (ha.readAt_unread x _ _).trans (congrArg x (funext fun d => Fin.ext ?_))
    have e := off8_eq i k
    fin_cases d <;> simp [Rect.unit, e]
end Cert.Stick
-- ==== Proof.StickHeads.lean ====
/- Stick-breaking attention: the queries and the heads' lanes. -/
module

public import proofs.«01_k».proof.Proof.StickTop
public import proofs.«01_k».proof.Proof.StickPay

@[expose] public section

set_option maxRecDepth 16384

noncomputable section

open Idealize.ShloMosaic Idealize.ShloMosaic.TcCoe Idealize.SL.Sem

namespace Cert.Stick
open Cert.KernelIdeal Cert.KernelIdeal.Gen

/-- Half of a pair's queries: those of one of its two heads, on that head's lanes. -/
def half (x0 : Vec Ideal S1x128x512 .bf16) (p : ℕ) (hp : S128x512.Slices ![0, 128 * p] S128x128) (e : BitVec 32) : FVec Ideal S128x128 .bf16 :=
  truncf .bf16 (select (cmpi .eq (k0_pay146 lanes) (broadcast S128x128 e)) (extractStridedSlice S128x128 ![0, 128 * p] (k0_pay138 x0) hp)
    (broadcast S128x128 (Scalar.ofBits (F := Ideal) .f32 0x00000000#32))) bitsLt_bf16_f32

theorem slices_pair (p : Fin 4) : S128x512.Slices ![0, 128 * p.val] S128x128 := by
  fin_cases p <;> decide

theorem queries_eq (x0 : Vec Ideal S1x128x512 .bf16) (p : Fin 4) :
    queries x0 p = concatenate S256x128 0 [⟨S128x128, half x0 p.val (slices_pair p) 0#32⟩, ⟨S128x128, half x0 p.val (slices_pair p) 1#32⟩] concatenates_S128x128_S128x128_S256x128_d0 := by
  fin_cases p <;> rfl

theorem lane_half (r l : Fin 128) : k0_pay146 lanes (ix2 r l) = BitVec.ofNat 32 (l.val / 64) := by
  unfold k0_pay146 lanes
  pointwise
  clear r
  revert l; decide +kernel

theorem half_apply (x0 : Vec Ideal S1x128x512 .bf16) (p : Fin 4) (e : ℕ) (he : e < 2) (r l : Fin 128) :
    half x0 p.val (slices_pair p) (BitVec.ofNat 32 e) (ix2 r l) = if l.val / 64 = e then x0 (ix3 0 r ⟨128 * p.val + l.val, by omega⟩) else 0 := by
  have h := lane_half r l
  unfold half k0_pay138
  generalize k0_pay146 lanes = w at h ⊢
  pointwise
  rw [h]
  have e2 : IntOp.cmpi CmpIPredicate.eq (BitVec.ofNat 32 (l.val / 64)) (BitVec.ofNat 32 e) = if l.val / 64 = e then 1#1 else 0#1 := by
    have hl : l.val / 64 < 2 := by omega
    generalize l.val / 64 = u at hl ⊢
    interval_cases u <;> interval_cases e <;> decide
  rw [e2]
  by_cases h3 : l.val / 64 = e
  · simp only [if_pos h3, Scalar.select]
    rfl
  · simp only [if_neg h3, Scalar.select]
    rfl

theorem queries_apply (x0 : Vec Ideal S1x128x512 .bf16) (h : Fin 8) (r l : Fin 128) :
    queries x0 (pair h) (ix2 ⟨128 * (h.val % 2) + r.val, by omega⟩ l)
      = if l.val / 64 = h.val % 2 then x0 (ix3 0 r ⟨128 * (h.val / 2) + l.val, by omega⟩) else 0 := by
  have a0 := half_apply x0 (pair h) 0 (by omega)
  have a1 := half_apply x0 (pair h) 1 (by omega)
  rw [queries_eq]
  generalize half x0 (pair h).val (slices_pair (pair h)) 0#32 = u0 at a0 ⊢
  generalize half x0 (pair h).val (slices_pair (pair h)) 1#32 = u1 at a1 ⊢
  pointwise
  rcases Nat.mod_two_eq_zero_or_one h.val with e | e
  · rw [dif_pos (by omega)]
    exact (congrArg (fun u => u0 (ix2 u l)) (Fin.ext (by dsimp only; omega))).trans ((a0 r l).trans (if_congr (by rw [e]) rfl rfl))
  · rw [dif_neg (by omega)]
    exact (congrArg (fun u => u1 (ix2 u l)) (Fin.ext (by dsimp only; omega))).trans ((a1 r l).trans (if_congr (by rw [e]) rfl rfl))

theorem join_apply (s : St) (r : Fin 128) (j : Fin 512) :
    join s (ix3 0 r j) = accs s ⟨j.val / 64, by omega⟩ (ix2 r ⟨j.val % 128, by omega⟩) := by
  unfold join k0_pay11 accs
  obtain ⟨_, _, _, _, _, _, _, _, a0, a1, a2, a3, a4, a5, a6, a7⟩ := s
  pointwise
  have e : ∀ l : ℕ, l < 128 → IntOp.cmpi CmpIPredicate.slt (BitVec.ofNat 32 l) 64#32 = if l < 64 then 1#1 else 0#1 := by
    intro l hl
    have h : ∀ l : Fin 128, IntOp.cmpi CmpIPredicate.slt (BitVec.ofNat 32 l.val) 64#32 = if l.val < 64 then 1#1 else 0#1 := by decide +kernel
    exact h ⟨l, hl⟩
  have s1 : ∀ a b : Ideal .f32, Scalar.select 1#1 a b = a := fun _ _ => rfl
  have s0 : ∀ a b : Ideal .f32, Scalar.select 0#1 a b = b := fun _ _ => rfl
  obtain ⟨j, hj⟩ := j
  obtain ⟨q, t, ht, hq, rfl⟩ : ∃ q t, t < 64 ∧ q < 8 ∧ j = 64 * q + t := ⟨j / 64, j % 64, by omega, by omega, by omega⟩
  have e1 : (⟨(64 * q + t) / 64, by omega⟩ : Fin 8) = ⟨q, hq⟩ := Fin.ext (by dsimp only; omega)
  dsimp only
  rw [e1]
  interval_cases q <;> simp (disch := omega) only [dif_pos, dif_neg, e, if_pos, if_neg, s1, s0]
  · exact congrArg (fun u => a0 (ix2 r u)) (Fin.ext (by dsimp only; omega))
  · exact congrArg (fun u => a1 (ix2 r u)) (Fin.ext (by dsimp only; omega))
  · exact congrArg (fun u => a2 (ix2 r u)) (Fin.ext (by dsimp only; omega))
  · exact congrArg (fun u => a3 (ix2 r u)) (Fin.ext (by dsimp only; omega))
  · exact congrArg (fun u => a4 (ix2 r u)) (Fin.ext (by dsimp only; omega))
  · exact congrArg (fun u => a5 (ix2 r u)) (Fin.ext (by dsimp only; omega))
  · exact congrArg (fun u => a6 (ix2 r u)) (Fin.ext (by dsimp only; omega))
  · exact congrArg (fun u => a7 (ix2 r u)) (Fin.ext (by dsimp only; omega))
end Cert.Stick
-- ==== Proof.StickRow.lean ====
/- Stick-breaking attention: a row of queries, its groups of keys from the top group down to the first. -/
module

public import proofs.«01_k».proof.Proof.StickOut
public import proofs.«01_k».proof.Proof.StickGrid
public import proofs.«01_k».proof.Proof.StickHeads

@[expose] public section

set_option maxRecDepth 16384

noncomputable section

open Idealize.ShloMosaic Idealize.ShloMosaic.TcCoe Idealize.SL.Sem

namespace Cert.Stick
open Cert.KernelIdeal Cert.KernelIdeal.Gen

/-- A row's scores, head `h`'s, by key. -/
def zrow (x0 : Vec Ideal S1x128x512 .bf16) (x1 : Vec Ideal S1x2176x512 .bf16) (h : Fin 8) (r : Fin 128) (s : ℕ) : EReal :=
  if hs : s < 2176 then ∑ l : Fin 128, queries x0 (pair h) (ix2 ⟨128 * (h.val % 2) + r.val, by omega⟩ l) * x1 (ix3 0 ⟨s, hs⟩ ⟨128 * (pair h).val + l.val, by omega⟩) else 0

/-- A lane of a head's pair's values, by key. -/
def vrow (x2 : Vec Ideal S1x2176x512 .bf16) (h : Fin 8) (d : Fin 128) (s : ℕ) : EReal :=
  if hs : s < 2176 then x2 (ix3 0 ⟨s, hs⟩ ⟨128 * (pair h).val + d.val, by omega⟩) else 0

theorem scores_row (x0 : Vec Ideal S1x128x512 .bf16) (x1 : Vec Ideal S1x2176x512 .bf16) (kc : Fin 4 → Vec Ideal S1x256x128 .bf16) (a : ℕ) (ha : a + 256 ≤ 2176)
    (hk : ∀ (p : Fin 4) (j : Fin 256) (l : Fin 128), kc p (ix3 0 j l) = x1 (ix3 0 ⟨a + j.val, by omega⟩ ⟨128 * p.val + l.val, by omega⟩))
    (h : Fin 8) (r : Fin 128) (j : Fin 256) : scores (queries x0) kc h (ix2 r j) = zrow x0 x1 h r (a + j.val) := by
  rw [scores_apply]
  unfold zrow
  rw [dif_pos (by omega)]
  exact Finset.sum_congr rfl fun l _ => by rw [hk]

theorem cum_step (lk : Fin 8 → Tile) (c : Sums) (h : Fin 8) (r : Fin 128) (f : ℕ → EReal) (a : ℕ) (ha : a + 256 ≤ 2176) (hf : ∀ s, f s ≠ ⊤)
    (hlk : ∀ j : Fin 256, lk h (ix2 r j) = f (a + j.val)) (hc : c h (ix2 r 0) = ∑ s ∈ Finset.Ico (a + 256) 2176, f s) (j : Fin 256) :
    c h (ix2 r 0) + cum k0_pay164 lk h (ix2 r j) = ∑ s ∈ Finset.Ico (a + j.val + 1) 2176, f s := by
  rw [cum_apply, cum0_apply _ _ _ (fun x => by rw [stack_apply, hlk]; exact hf _)]
  simp only [stack_apply, hlk]
  exact step_between f a j.val j.isLt ha _ hc

theorem sums_step (lk : Fin 8 → Tile) (c : Sums) (h : Fin 8) (r : Fin 128) (f : ℕ → EReal) (a : ℕ) (ha : a + 256 ≤ 2176) (hf : ∀ s, f s ≠ ⊤)
    (hlk : ∀ j : Fin 256, lk h (ix2 r j) = f (a + j.val)) (hc : c h (ix2 r 0) = ∑ s ∈ Finset.Ico (a + 256) 2176, f s) :
    newSums k0_pay164 lk c h (ix2 r 0) = ∑ s ∈ Finset.Ico a 2176, f s := by
  rw [newSums_apply, cum_apply, cum0_apply _ _ _ (fun x => by rw [stack_apply, hlk]; exact hf _)]
  simp only [stack_apply, hlk]
  exact step_sum f a ha _ hc

theorem accs_step (w : Fin 8 → Tile) (v : Fin 4 → Vec Ideal S1x256x128 .bf16) (A : Accs) (h : Fin 8) (r d : Fin 128) (g : ℕ → EReal) (a : ℕ) (ha : a + 256 ≤ 2176)
    (hw : ∀ j : Fin 256, w h (ix2 r j) * v (pair h) (ix3 0 j d) = g (a + j.val)) (hA : A h (ix2 r d) = ∑ s ∈ Finset.Ico (a + 256) 2176, g s) :
    newAccs w v A h (ix2 r d) = ∑ s ∈ Finset.Ico a 2176, g s := by
  rw [newAccs_apply]
  simp only [hw]
  exact step_acc g a ha _ hA

theorem zeroSums_apply (h : Fin 8) (y : S128x1.Idx) : zeroSums h y = 0 := by
  unfold zeroSums k0_pay165
  pointwise
  try rfl
theorem zeroAccs_apply (h : Fin 8) (y : S128x128.Idx) : zeroAccs h y = 0 := by
  unfold zeroAccs k0_pay173
  pointwise
  try rfl

theorem topKeep_apply (i : grid0.Coords) (hi : (i 1).val < 17) (x0 : Vec Ideal S1x128x512 .bf16) (x1 : Vec Ideal S1x2176x512 .bf16) (h : Fin 8) (r : Fin 128) (j : Fin 256) :
    topKeep i x0 x1 h (ix2 r j) = lkm (zrow x0 x1 h r) (128 * (i 1).val + r.val) (256 * ((i 1).val / 2)) (min (256 * ((i 1).val / 2)) 1920 + j.val) := by
  unfold topKeep lkm
  rw [masked_apply, keep_apply, scores_row x0 x1 (topCols i x1) _ (by omega) (topCols_apply i x1)]
  exact if_congr (grid_words i r j) rfl rfl

theorem top_nothing (i : grid0.Coords) (hi : (i 1).val < 17) (x0 : Vec Ideal S1x128x512 .bf16) (x1 : Vec Ideal S1x2176x512 .bf16) (h : Fin 8) (r : Fin 128) :
    zeroSums h (ix2 r 0) = ∑ s ∈ Finset.Ico (min (256 * ((i 1).val / 2)) 1920 + 256) 2176, lkm (zrow x0 x1 h r) (128 * (i 1).val + r.val) (256 * ((i 1).val / 2)) s := by
  rw [zeroSums_apply]
  exact above_lkm _ _ _ _ (by omega)

theorem topWeights_apply (i : grid0.Coords) (hi : (i 1).val < 17) (x0 : Vec Ideal S1x128x512 .bf16) (x1 : Vec Ideal S1x2176x512 .bf16) (h : Fin 8) (r : Fin 128) (j : Fin 256) :
    topWeights i x0 x1 h (ix2 r j) = wt (zrow x0 x1 h r) (128 * (i 1).val + r.val) (256 * ((i 1).val / 2)) (min (256 * ((i 1).val / 2)) 1920 + j.val) := by
  unfold topWeights wt
  rw [masked_apply, weights_apply, cum_step (topKeep i x0 x1) zeroSums h r _ _ (by omega) (lkm_ne_top _ _ _) (topKeep_apply i hi x0 x1 h r) (top_nothing i hi x0 x1 h r),
    brk_apply, scores_row x0 x1 (topCols i x1) _ (by omega) (topCols_apply i x1)]
  exact if_congr (grid_words i r j) rfl rfl

theorem top_sums (i : grid0.Coords) (hi : (i 1).val < 17) (x0 : Vec Ideal S1x128x512 .bf16) (x1 : Vec Ideal S1x2176x512 .bf16) (h : Fin 8) (r : Fin 128) :
    newSums k0_pay164 (topKeep i x0 x1) zeroSums h (ix2 r 0)
      = ∑ s ∈ Finset.Ico (256 * ((i 1).val / 2)) 2176, lkm (zrow x0 x1 h r) (128 * (i 1).val + r.val) 0 s := by
  rw [sums_step (topKeep i x0 x1) zeroSums h r _ _ (by omega) (lkm_ne_top _ _ _) (topKeep_apply i hi x0 x1 h r) (top_nothing i hi x0 x1 h r)]
  exact nominal_lkm _ _ _ _ (by omega) (by omega)

theorem top_accs (i : grid0.Coords) (hi : (i 1).val < 17) (x0 : Vec Ideal S1x128x512 .bf16) (x1 x2 : Vec Ideal S1x2176x512 .bf16) (h : Fin 8) (r d : Fin 128) :
    newAccs (topWeights i x0 x1) (topCols i x2) zeroAccs h (ix2 r d)
      = ∑ s ∈ Finset.Ico (256 * ((i 1).val / 2)) 2176, wt (zrow x0 x1 h r) (128 * (i 1).val + r.val) 0 s * vrow x2 h d s := by
  rw [accs_step (topWeights i x0 x1) (topCols i x2) zeroAccs h r d
    (fun s => wt (zrow x0 x1 h r) (128 * (i 1).val + r.val) (256 * ((i 1).val / 2)) s * vrow x2 h d s) (min (256 * ((i 1).val / 2)) 1920) (by omega)
    (fun j => by
      rw [topWeights_apply i hi, topCols_apply]
      unfold vrow
      rw [dif_pos (by omega)])
    (by rw [zeroAccs_apply]; exact above_wt _ _ _ _ _ (by omega))]
  exact nominal_wt _ _ _ _ _ (by omega) (by omega)

variable (c : Dev nD) (i : grid0.Coords) (arg2 : Memref sig .tc .vmem S1x128x512 .bf16) (harg2 : arg2.IsWhole) (arg3 : Memref sig .tc .vmem S1x2176x512 .bf16) (harg3 : arg3.IsWhole) (arg4 : Memref sig .tc .vmem S1x2176x512 .bf16) (harg4 : arg4.IsWhole) (arg5 : Memref sig .tc .vmem S1x128x512 .bf16) (harg5 : arg5.IsWhole)

theorem queries_pack (x0 : Vec Ideal S1x128x512 .bf16) : ![queries x0 0, queries x0 1, queries x0 2, queries x0 3] = queries x0 := by
  funext p
  fin_cases p <;> rfl

/-- What the first trips leave. -/
theorem trips_row (hi : (i 1).val < 17) (x0 : Vec Ideal S1x128x512 .bf16) (x1 x2 : Vec Ideal S1x2176x512 .bf16) (w : BitVec 32) (init : St) (h : Fin 8) (r : Fin 128)
    (hs : sums init = newSums k0_pay164 (topKeep i x0 x1) zeroSums) (ha : accs init = newAccs (topWeights i x0 x1) (topCols i x2) zeroAccs) (k : ℕ) (hk : k ≤ (i 1).val / 2) :
    (sums (st_k0_t1 (F := Ideal) Variants.none c none i arg2 harg2 arg3 harg3 arg4 harg4 arg5 harg5 (queries x0 0) (queries x0 1) (queries x0 2) (queries x0 3) k0_pay164 w
        (harg3.unread x1) (harg4.unread x2) init k) h (ix2 r 0)
      = ∑ s ∈ Finset.Ico (256 * ((i 1).val / 2 - k)) 2176, lkm (zrow x0 x1 h r) (128 * (i 1).val + r.val) 0 s)
    ∧ ∀ d : Fin 128, accs (st_k0_t1 (F := Ideal) Variants.none c none i arg2 harg2 arg3 harg3 arg4 harg4 arg5 harg5 (queries x0 0) (queries x0 1) (queries x0 2) (queries x0 3) k0_pay164 w
        (harg3.unread x1) (harg4.unread x2) init k) h (ix2 r d)
      = ∑ s ∈ Finset.Ico (256 * ((i 1).val / 2 - k)) 2176, wt (zrow x0 x1 h r) (128 * (i 1).val + r.val) 0 s * vrow x2 h d s := by
  induction k with
  | zero =>
    rw [st_k0_t1_zero, hs, ha]
    exact ⟨top_sums i hi x0 x1 h r, top_accs i hi x0 x1 x2 h r⟩
  | succ k ih =>
    have hlt : k < (k0_t1_loop i).trips := by rw [trips1]; omega
    have e := st_k0_t1_succ (F := Ideal) Variants.none c none i arg2 harg2 arg3 harg3 arg4 harg4 arg5 harg5 (queries x0 0) (queries x0 1) (queries x0 2) (queries x0 3) k0_pay164 w
        (harg3.unread x1) (harg4.unread x2) init ⟨k, hlt⟩
    dsimp only at e
    rw [e, trip_sums, trip_accs, queries_pack]
    obtain ⟨ih0, ih1⟩ := ih (by omega)
    generalize st_k0_t1 (F := Ideal) Variants.none c none i arg2 harg2 arg3 harg3 arg4 harg4 arg5 harg5 (queries x0 0) (queries x0 1) (queries x0 2) (queries x0 3) k0_pay164 w
        (harg3.unread x1) (harg4.unread x2) init k = S at ih0 ih1 ⊢
    obtain ⟨a, hae, hab⟩ : ∃ a, a = 256 * ((i 1).val / 2 - 1 - k) ∧ a + 256 ≤ 128 * (i 1).val := ⟨_, rfl, by omega⟩
    have e0 : 256 * ((i 1).val / 2 - (k + 1)) = a := by omega
    have e1 : 256 * ((i 1).val / 2 - k) = a + 256 := by omega
    rw [e0]
    rw [e1] at ih0 ih1
    have hkc : ∀ (p : Fin 4) (j : Fin 256) (l : Fin 128), cols i (harg3.unread x1) ⟨k, hlt⟩ p (ix3 0 j l) = x1 (ix3 0 ⟨a + j.val, by omega⟩ ⟨128 * p.val + l.val, by omega⟩) := by
      intro p j l
      subst hae
      exact cols_apply i harg3 x1 ⟨k, hlt⟩ (by dsimp only; omega) hi p j l
    have hvc : ∀ (p : Fin 4) (j : Fin 256) (l : Fin 128), cols i (harg4.unread x2) ⟨k, hlt⟩ p (ix3 0 j l) = x2 (ix3 0 ⟨a + j.val, by omega⟩ ⟨128 * p.val + l.val, by omega⟩) := by
      intro p j l
      subst hae
      exact cols_apply i harg4 x2 ⟨k, hlt⟩ (by dsimp only; omega) hi p j l
    generalize cols i (harg3.unread x1) ⟨k, hlt⟩ = kc at hkc ⊢
    generalize cols i (harg4.unread x2) ⟨k, hlt⟩ = vc at hvc ⊢
    have hlk : ∀ j : Fin 256, (fun h => keep (scores (queries x0) kc h)) h (ix2 r j) = lkm (zrow x0 x1 h r) (128 * (i 1).val + r.val) 0 (a + j.val) := by
      intro j
      dsimp only
      rw [keep_apply, scores_row x0 x1 kc a (by omega) hkc]
      exact (if_pos ⟨Nat.zero_le _, by omega⟩).symm
    refine ⟨sums_step _ _ h r _ a (by omega) (lkm_ne_top _ _ _) hlk ih0, fun d => ?_⟩
    refine accs_step _ _ _ h r d (fun s => wt (zrow x0 x1 h r) (128 * (i 1).val + r.val) 0 s * vrow x2 h d s) a (by omega) (fun j => ?_) (ih1 d)
    rw [weights_apply, cum_step _ _ h r _ a (by omega) (lkm_ne_top _ _ _) hlk ih0, hvc, brk_apply, scores_row x0 x1 kc a (by omega) hkc]
    unfold vrow wt
    rw [dif_pos (by omega), if_pos ⟨Nat.zero_le _, by omega⟩]

/-- What a step of the grid writes, at a row and a lane. -/
theorem out_row (hi : (i 1).val < 17) (x0 : Vec Ideal S1x128x512 .bf16) (x1 x2 : Vec Ideal S1x2176x512 .bf16) (r : Fin 128) (j : Fin 512) :
    out0_A_3 c i arg2 harg2 arg3 harg3 arg4 harg4 arg5 harg5 x0 x1 x2 (ix3 0 r j)
      = ∑ s ∈ Finset.Ico 0 2176, wt (zrow x0 x1 ⟨j.val / 64, by omega⟩ r) (128 * (i 1).val + r.val) 0 s * vrow x2 ⟨j.val / 64, by omega⟩ ⟨j.val % 128, by omega⟩ s := by
  obtain ⟨w, w', w'', init, hs, ha, e⟩ := out_eq c i arg2 harg2 arg3 harg3 arg4 harg4 arg5 harg5 x0 x1 x2
  rw [e, join_apply]
  unfold ends
  rw [trips2, st_k0_t2_zero, trips1,
    (trips_row c i arg2 harg2 arg3 harg3 arg4 harg4 arg5 harg5 hi x0 x1 x2 w init _ r hs ha _ le_rfl).2, Nat.sub_self, Nat.mul_zero]

end Cert.Stick
-- ==== Proof.StickGoal.lean ====
/- Stick-breaking attention: the result both programs compute, over the arguments. -/
module

public import proofs.«01_k».proof.Defs
public import proofs.«01_k».proof.Proof.StickMath
public import Idealize.ShloMosaic.Lib.Pointwise

@[expose] public section

set_option maxRecDepth 16384

noncomputable section

open Idealize.ShloMosaic Idealize.ShloMosaic.TcCoe Idealize.SL.Sem

namespace Cert.Stick
open Cert.KernelIdeal

/-- An argument padded to 2176 positions, head `h`'s lane `e`. -/
def padded (x : Vec Ideal S8x2064x8x64 .f32) (b : Fin 8) (s : ℕ) (h : Fin 8) (e : Fin 64) : EReal :=
  if hs : s < 2064 then x (ix4 b ⟨s, hs⟩ h e) else FloatOps.sitofp (F := Ideal) FTy.f32 0#32

/-- A query's scaled scores, by key. -/
def score (q k : Vec Ideal S8x2064x8x64 .f32) (b h : Fin 8) (t s : ℕ) : EReal :=
  if s < 2176 then (∑ e : Fin 64, padded q b t h e * padded k b s h e) * Ideal.ofBits .f32 0x3E000000#32 else 0

/-- The attention's result at a batch, a position and a lane. -/
def attended (q k v : Vec Ideal S8x2064x8x64 .f32) (b : Fin 8) (t : ℕ) (j : Fin 512) : EReal :=
  ∑ s ∈ Finset.Ico 0 2176, wt (score q k b ⟨j.val / 64, by omega⟩ t) t 0 s
    * padded v b s ⟨j.val / 64, by omega⟩ ⟨j.val % 64, by omega⟩

/-- The result array over all indices. -/
def whole (f : Fin 8 → ℕ → Fin 512 → EReal) : S8x2176x512.Idx → EReal := fun i => f (i 0) (i 1).val (i 2)

/-- A guarded read of a padded argument, with the lanes' bounds spelled out. -/
theorem pad_eq (x : Vec Ideal S8x2064x8x64 .f32) (b : Fin 8) (s j : ℕ) (hj : j < 512) :
    (if h : s < 2064 ∧ j / 64 < 8 ∧ j % 64 < 64 then x (ix4 b ⟨s, h.1⟩ ⟨j / 64, h.2.1⟩ ⟨j % 64, h.2.2⟩) else FloatOps.sitofp (F := Ideal) FTy.f32 0#32)
      = padded x b s ⟨j / 64, by omega⟩ ⟨j % 64, by omega⟩ := by
  unfold padded
  by_cases hs : s < 2064
  · rw [dif_pos ⟨hs, by omega, by omega⟩, dif_pos hs]
  · rw [dif_neg hs, dif_neg fun h => hs h.1]

/-- One eighth, the scores' scale. -/
theorem eighth : Ideal.ofBits .f32 0x3E000000#32 = (((1 : ℝ) / 8 : ℝ) : EReal) := by
  simp [Ideal.ofBits, Ideal.ieee, -EReal.coe_mul]; norm_num

theorem sum_scale (f : Fin 64 → EReal) : (∑ e, f e) * Ideal.ofBits .f32 0x3E000000#32 = ∑ e, f e * Ideal.ofBits .f32 0x3E000000#32 := by
  have h0 : (0 : EReal) ≤ Ideal.ofBits .f32 0x3E000000#32 := by
    rw [eighth]
    exact_mod_cast (by norm_num : (0 : ℝ) ≤ 1 / 8)
  have h1 : Ideal.ofBits .f32 0x3E000000#32 ≠ ⊤ := by
    rw [eighth]
    exact EReal.coe_ne_top _
  generalize Ideal.ofBits .f32 0x3E000000#32 = c at h0 h1 ⊢
  generalize (Finset.univ : Finset (Fin 64)) = S
  induction S using Finset.induction_on with
  | empty => simp
  | insert a S ha ih => rw [Finset.sum_insert ha, Finset.sum_insert ha, EReal.right_distrib_of_nonneg_of_ne_top h0 h1, ih]

end Cert.Stick
-- ==== Proof.StickHost.lean ====
/- Stick-breaking attention: the kernel's operands, over the program's arguments. -/
module

public import proofs.«01_k».proof.Defs
public import proofs.«01_k».proof.Proof.Gen.KernelIdeal.Value
public import proofs.«01_k».proof.Proof.StickGoal
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Stick
open Cert.KernelIdeal Cert.KernelIdeal.Gen

variable (m : (ℓ : Loc nD τ sig) → Buf (Elt Ideal) ℓ) (ρ : Dev nD → PrngReg)

/-- The attention's arguments. -/
abbrev Q (c : Dev nD) : Vec Ideal S8x2064x8x64 .f32 := m ((c : Thread nD τ).loc main_arg0)
abbrev K (c : Dev nD) : Vec Ideal S8x2064x8x64 .f32 := m ((c : Thread nD τ).loc main_arg1)
abbrev W (c : Dev nD) : Vec Ideal S8x2064x8x64 .f32 := m ((c : Thread nD τ).loc main_arg2)

theorem host (c : Dev nD) (b : Fin 8) (s : Fin 2176) (j : Fin 512) :
    (V m c main_v4 : S8x2176x512.Idx → EReal) (ix3 b s j) = padded (Q m c) b s.val ⟨j.val / 64, by omega⟩ ⟨j.val % 64, by omega⟩ * Ideal.ofBits .f32 0x3E000000#32
    ∧ (V m c main_v7 : S8x2176x512.Idx → EReal) (ix3 b s j) = padded (K m c) b s.val ⟨j.val / 64, by omega⟩ ⟨j.val % 64, by omega⟩
    ∧ (V m c main_v10 : S8x2176x512.Idx → EReal) (ix3 b s j) = padded (W m c) b s.val ⟨j.val / 64, by omega⟩ ⟨j.val % 64, by omega⟩ := by
  refine ⟨?_, ?_, ?_⟩ <;>
    (unfold V
     simp only [hostOps0, hostOps0_1, hostOps0_2, hostOps0_3, hostOps0_4, hostOps0_5, hostOps0_6, List.flatten_cons, List.flatten_nil, List.append_nil, List.cons_append, List.nil_append]
     entry_read
     try simp only [StableHlo.TRef.toBuf, StableHlo.TRef.ofBuf, cast_eq]
     pointwise)
  · exact congrArg (· * Ideal.ofBits .f32 0x3E000000#32) (pad_eq (Q m c) b s.val j.val j.isLt)
  · exact pad_eq (K m c) b s.val j.val j.isLt
  · exact pad_eq (W m c) b s.val j.val j.isLt

theorem idx : ∀ t : Fin cfg0.N, win0_0.index t = ![t.val / 17, t.val % 17, 0] ∧ win0_1.index t = ![t.val / 17, 0, 0]
    ∧ win0_2.index t = ![t.val / 17, 0, 0] ∧ win0_3.index t = ![t.val / 17, t.val % 17, 0] ∧ (grid0.coords t 1).val = t.val % 17 :=
  (by decide +kernel : ∀ t : Fin grid0.N, _)

theorem blk0 (c : Dev nD) (t : Fin cfg0.N) (b : Fin 8) (hb : b.val = t.val / 17) (r : Fin 128) (j : Fin 512) :
    iblk m c 0 t (ix3 0 r j) = padded (Q m c) b (128 * (t.val % 17) + r.val) ⟨j.val / 64, by omega⟩ ⟨j.val % 64, by omega⟩ * Ideal.ofBits .f32 0x3E000000#32 := by
  refine Eq.trans ?_ (host m c b ⟨128 * (t.val % 17) + r.val, by omega⟩ j).1
  obtain ⟨e, -⟩ := idx t
  blk_ext [iblk, e, hb]

theorem blk1 (c : Dev nD) (t : Fin cfg0.N) (b : Fin 8) (hb : b.val = t.val / 17) (s : Fin 2176) (j : Fin 512) :
    iblk m c 1 t (ix3 0 s j) = padded (K m c) b s.val ⟨j.val / 64, by omega⟩ ⟨j.val % 64, by omega⟩ := by
  refine Eq.trans ?_ (host m c b s j).2.1
  obtain ⟨e, -⟩ := (idx t).2
  blk_ext [iblk, e, hb]

theorem blk2 (c : Dev nD) (t : Fin cfg0.N) (b : Fin 8) (hb : b.val = t.val / 17) (s : Fin 2176) (j : Fin 512) :
    iblk m c 2 t (ix3 0 s j) = padded (W m c) b s.val ⟨j.val / 64, by omega⟩ ⟨j.val % 64, by omega⟩ := by
  refine Eq.trans ?_ (host m c b s j).2.2
  obtain ⟨e, -⟩ := (idx t).2.2
  blk_ext [iblk, e, hb]

end Cert.Stick
-- ==== Proof.StickEnd.lean ====
/- Stick-breaking attention: the result array, over the program's arguments. -/
module

public import proofs.«01_k».proof.Defs
public import proofs.«01_k».proof.Proof.Gen.KernelIdeal.Value
public import proofs.«01_k».proof.Proof.StickRow
public import proofs.«01_k».proof.Proof.StickHost
public import proofs.«01_k».proof.Proof.StickGoal
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Stick
open Cert.KernelIdeal Cert.KernelIdeal.Gen

variable (m : (ℓ : Loc nD τ sig) → Buf (Elt Ideal) ℓ) (ρ : Dev nD → PrngReg)

/-! ## A block's rows -/

theorem sum_half (u : ℕ) (hu : u < 2) (g : Fin 128 → EReal) :
    (∑ l : Fin 128, if l.val / 64 = u then g l else 0) = ∑ e : Fin 64, g ⟨64 * u + e.val, by omega⟩ := by
  refine (Fin.sum_univ_add (a := 64) (b := 64) fun l : Fin (64 + 64) => if l.val / 64 = u then g l else 0).trans ?_
  interval_cases u
  · have e0 : ∀ e : Fin 64, (Fin.castAdd 64 e).val / 64 = 0 := fun e => by simp only [Fin.val_castAdd]; omega
    have e1 : ∀ e : Fin 64, ¬ (Fin.natAdd 64 e).val / 64 = 0 := fun e => by simp only [Fin.val_natAdd]; omega
    simp only [e0, e1, if_true, if_false, Finset.sum_const_zero, add_zero]
    exact Finset.sum_congr rfl fun e _ => congrArg g (Fin.ext (by simp))
  · have e0 : ∀ e : Fin 64, ¬ (Fin.castAdd 64 e).val / 64 = 1 := fun e => by simp only [Fin.val_castAdd]; omega
    have e1 : ∀ e : Fin 64, (Fin.natAdd 64 e).val / 64 = 1 := fun e => by simp only [Fin.val_natAdd]; omega
    simp only [e0, e1, if_true, if_false, Finset.sum_const_zero, zero_add]
    exact Finset.sum_congr rfl fun e _ => congrArg g (Fin.ext (by simp only [Fin.val_natAdd]))

theorem blk_score (c : Dev nD) (t : Fin cfg0.N) (b : Fin 8) (hb : b.val = t.val / 17) (h : Fin 8) (r : Fin 128) :
    zrow (iblk m c 0 t) (iblk m c 1 t) h r = score (Q m c) (K m c) b h (128 * (t.val % 17) + r.val) := by
  funext s
  unfold zrow score
  by_cases hs : s < 2176
  · rw [dif_pos hs, if_pos hs]
    simp only [queries_apply, ite_mul, zero_mul]
    rw [sum_half (h.val % 2) (by omega), sum_scale]
    refine Finset.sum_congr rfl fun e _ => ?_
    rw [blk0 m c t b hb, blk1 m c t b hb]
    have e1 : (⟨(128 * (h.val / 2) + (64 * (h.val % 2) + e.val)) / 64, by omega⟩ : Fin 8) = h := Fin.ext (by dsimp only; omega)
    have e2 : (⟨(128 * (h.val / 2) + (64 * (h.val % 2) + e.val)) % 64, by omega⟩ : Fin 64) = e := Fin.ext (by dsimp only; omega)
    simp only [pair]
    rw [e1, e2]
    exact mul_right_comm _ _ _
  · rw [dif_neg hs, if_neg hs]

theorem blk_values (c : Dev nD) (t : Fin cfg0.N) (b : Fin 8) (hb : b.val = t.val / 17) (j : Fin 512) (s : ℕ) (hs : s < 2176) :
    vrow (iblk m c 2 t) ⟨j.val / 64, by omega⟩ ⟨j.val % 128, by omega⟩ s = padded (W m c) b s ⟨j.val / 64, by omega⟩ ⟨j.val % 64, by omega⟩ := by
  unfold vrow
  rw [dif_pos hs, blk2 m c t b hb]
  simp only [pair]
  congr 1 <;> exact Fin.ext (by dsimp only; omega)

theorem block (c : Dev nD) (t : Fin cfg0.N) (b : Fin 8) (hb : b.val = t.val / 17) (r : Fin 128) (j : Fin 512) :
    outsAt0 m c t (ix3 0 r j) = attended (Q m c) (K m c) (W m c) b (128 * (t.val % 17) + r.val) j := by
  have ei := (idx t).2.2.2.2
  unfold outsAt0
  rw [out_row _ _ _ _ _ _ _ _ _ _ (by omega)]
  unfold attended
  rw [ei]
  refine Finset.sum_congr rfl fun s hs => ?_
  rw [Finset.mem_Ico] at hs
  rw [blk_score m c t b hb, blk_values m c t b hb j s hs.2]

theorem block_final {g : S1x128x512.Idx → EReal} {f : Fin 8 → ℕ → Fin 512 → EReal} (t : Fin cfg0.N)
    (hg : ∀ (b : Fin 8), b.val = t.val / 17 → ∀ (r : Fin 128) (j : Fin 512), g (ix3 0 r j) = f b (128 * (t.val % 17) + r.val) j)
    (y : S1x128x512.Idx) (i : S8x2176x512.Idx) (h0 : (i 0 : ℕ) = t.val / 17 + (y 0 : ℕ)) (h1 : (i 1 : ℕ) = t.val % 17 * 128 + (y 1 : ℕ))
    (h2 : (i 2 : ℕ) = (y 2 : ℕ)) : g y = whole f i := by
  idx_vars y
  have e0 : (i 0 : ℕ) = t.val / 17 := h0.trans (by simp)
  have e1 : (i 1 : ℕ) = t.val % 17 * 128 + y1.val := h1
  have e2 : i 2 = y2 := Fin.ext h2
  obtain rfl : y0 = 0 := Subsingleton.elim _ _
  refine (hg (i 0) e0 y1 y2).trans ?_
  unfold whole
  rw [e1, e2, mul_comm]

theorem final3 (c : Dev nD) : (dats m 0 c).arrAt 3 cfg0.N = whole (attended (Q m c) (K m c) (W m c)) := by
  refine (dats m 0 c).arrAt_eq_of_covers 3 _ (by decide +kernel) fun t hf y => ?_
  have e := (idx t).2.2.2.1
  blk_simp
  rw [after0_3]
  exact block_final t (fun b hb r j => block m c t b hb r j) _ _ (by blk_simp [e]) (by blk_simp [e]) (by blk_simp [e])

end Cert.Stick
-- ==== Proof.StickRef.lean ====
/- Stick-breaking attention: the reference's result, at an index. -/
module

public import proofs.«01_k».proof.Defs
public import proofs.«01_k».proof.Proof.Gen.ReferenceIdeal.Run
public import proofs.«01_k».proof.Proof.StickGoal
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Stick.Ref

open Cert.ReferenceIdeal Cert.ReferenceIdeal.Gen Cert.ReferenceIdeal.Value
open Cert.Stick (padded score attended whole lkm wt sp kp)

/-- An argument, padded. -/
def longer (x : FVec Ideal S8x2064x8x64 .f32) : FVec Ideal S8x2176x8x64 .f32 :=
  pad S8x2176x8x64 ![0, 0, 0, 0] ![0, 112, 0, 0] ![0, 0, 0, 0] x (sitofp .f32 (constantI S_ 32 0#32)) pads_S8x2064x8x64_S8x2176x8x64_000_01120_000_000 h_S_

/-- The scaled scores. -/
def scores (p k : FVec Ideal S8x2176x8x64 .f32) : FVec Ideal S8x8x2176x2176 .f32 :=
  mulf (Host.dotGeneral dot_S8x2176x8x64_S8x2176x8x64_S8x8x2176x2176_3_3_1_1_02_02 none p k) (broadcastInDim S8x8x2176x2176 ![] bcast_S_S8x8x2176x2176 (constant S_ .f32 0x3E000000#32))

/-- Zeros. -/
def zeros : FVec Ideal S8x8x2176x2176 .f32 := broadcastInDim S8x8x2176x2176 ![] bcast_S_S8x8x2176x2176 (constant S_ .f32 0x00000000#32)

/-- The softplus. -/
def softplus (y : FVec Ideal S8x8x2176x2176 .f32) : FVec Ideal S8x8x2176x2176 .f32 :=
  select (cmpf .une (subf y zeros) (subf y zeros)) (addf y zeros) (addf (maximumf y zeros) (Host.log1p (Host.exp (Host.negf (Host.absf (subf y zeros))))))

/-- Which keys a query sees. -/
def seen : IVec S8x8x2176x2176 1 :=
  broadcastInDim S8x8x2176x2176 ![2, 3] bcast_S2176x2176_S8x8x2176x2176_2_3 (cmpi .slt (broadcastInDim S2176x2176 ![0, 1] bcast_S1x2176_S2176x2176_0_1 (broadcastInDim S1x2176 ![1] bcast_S2176_S1x2176_1 (iotaInDim S2176 32 0))) (broadcastInDim S2176x2176 ![0, 1] bcast_S2176x1_S2176x2176_0_1 (broadcastInDim S2176x1 ![0] bcast_S2176_S2176x1_0 (iotaInDim S2176 32 0))))

/-- An array where the query sees the key, zero elsewhere. -/
def masked (a : FVec Ideal S8x8x2176x2176 .f32) : FVec Ideal S8x8x2176x2176 .f32 :=
  select seen a (broadcastInDim S8x8x2176x2176 ![] bcast_S_S8x8x2176x2176 (id (constant S_ .f32 0x00000000#32)))

/-- The sums over the keys from each one on. -/
def suffix (l : FVec Ideal S8x8x2176x2176 .f32) : FVec Ideal S8x8x2176x2176 .f32 :=
  Host.reduceWindowAdd ![1, 1, 1, 2176] ![1, 1, 1, 1] ![0, 0, 0, 0] ![0, 0, 0, 2175] l (broadcastInDim S_ ![] bcast_S_S_ (constant S_ .f32 0x00000000#32)) reduceWindows_S8x8x2176x2176_S8x8x2176x2176_w1s1p0_0_w1s1p0_0_w1s1p0_0_w2176s1p0_2175 h_S_

/-- The weights of the keys. -/
def weights (z : FVec Ideal S8x8x2176x2176 .f32) : FVec Ideal S8x8x2176x2176 .f32 :=
  masked (Host.exp (addf (Host.negf (softplus (Host.negf z))) (subf (suffix (masked (Host.negf (softplus (Host.negf (Host.negf z)))))) (masked (Host.negf (softplus (Host.negf (Host.negf z))))))))

/-- The weighted values, heads side by side. -/
def mixed (v : FVec Ideal S8x2176x8x64 .f32) (a : FVec Ideal S8x8x2176x2176 .f32) : FVec Ideal S8x2176x512 .bf16 :=
  truncf .bf16 (shapeCast _ (transpose S8x2176x8x64 [0, 3, 1, 2] (Host.dotGeneral dot_S8x2176x8x64_S8x8x2176x2176_S8x8x64x2176_1_3_3_2_02_01 none v a) transposes_S8x8x64x2176_S8x2176x8x64_0_3_1_2) shapeCasts_S8x2176x8x64_S8x2176x512) bitsLt_bf16_f32

theorem longer_apply (x : FVec Ideal S8x2064x8x64 .f32) (b : Fin 8) (s : Fin 2176) (h : Fin 8) (e : Fin 64) :
    longer x (ix4 b s h e) = padded x b s.val h e := by
  unfold longer
  pointwise [padded]

theorem scores_apply (q k : FVec Ideal S8x2064x8x64 .f32) (b h : Fin 8) (t s : Fin 2176) :
    scores (longer q) (longer k) (ix4 b h t s) = score q k b h t.val s.val := by
  have hp := longer_apply q
  have hk := longer_apply k
  generalize longer q = p at hp ⊢
  generalize longer k = k' at hk ⊢
  unfold scores score
  rw [if_pos s.isLt]
  pointwise [hp, hk]

theorem softplus_apply (y : FVec Ideal S8x8x2176x2176 .f32) (b h : Fin 8) (t s : Fin 2176) :
    softplus y (ix4 b h t s) = sp (y (ix4 b h t s)) := by
  unfold softplus zeros sp
  have hne : ∀ a : EReal, Ideal.cmp .une a a = 0#1 := fun a => by simp [Ideal.cmp]
  pointwise [hne]

theorem word_value (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem word_lt (a b : ℕ) (ha : a < 2176) (hb : b < 2176) :
    IntOp.cmpi CmpIPredicate.slt (BitVec.ofNat 32 a) (BitVec.ofNat 32 b) = if a < b then 1#1 else 0#1 := by
  unfold IntOp.cmpi
  simp only [BitVec.slt, word_value a (by omega), word_value b (by omega), Nat.cast_lt]
  by_cases h : a < b <;> simp [h]

theorem seen_apply (b h : Fin 8) (t s : Fin 2176) : seen (ix4 b h t s) = if s.val < t.val then 1#1 else 0#1 := by
  refine Eq.trans ?_ (word_lt s.val t.val s.isLt t.isLt)
  unfold seen
  pointwise

theorem masked_apply (a : FVec Ideal S8x8x2176x2176 .f32) (b h : Fin 8) (t s : Fin 2176) :
    masked a (ix4 b h t s) = if s.val < t.val then a (ix4 b h t s) else 0 := by
  have hs := seen_apply b h t s
  unfold masked
  generalize seen = k at hs ⊢
  pointwise [hs]
  by_cases hst : s.val < t.val
  · rw [if_pos hst, if_pos hst]
    rfl
  · rw [if_neg hst, if_neg hst]
    exact Ideal.ofBits_zero_f32

theorem fold_add {N : ℕ} (g : Fin N → EReal) : ∀ (l : List (Fin N)) (r : EReal), l.foldl (fun r n => r + g n) r = r + (l.map g).sum
  | [], r => (add_zero r).symm
  | a :: l, r => by rw [List.foldl_cons, fold_add g l, List.map_cons, List.sum_cons, add_assoc]

/-- A window's value: what the operand holds at a place of the window starting at `j`, the initial value outside it. -/
def windowed {s t : Shape} (window strides lo hi : Fin s.rank → ℕ) (h : s.ReduceWindows window strides lo hi t) (x : s.Idx → EReal) (init : EReal)
    (j : t.Idx) (w : (⟨s.rank, window⟩ : Shape).Idx) : EReal :=
  if hin : ∀ a, lo a ≤ (j (a.cast h.1.symm)).val * strides a + (w a).val ∧ (j (a.cast h.1.symm)).val * strides a + (w a).val - lo a < s.size a then
    x (fun a => ⟨(j (a.cast h.1.symm)).val * strides a + (w a).val - lo a, (hin a).2⟩)
  else init

/-- A window sum is the sum over the window's places. -/
theorem window_sum {s t : Shape} (window strides lo hi : Fin s.rank → ℕ) (h : s.ReduceWindows window strides lo hi t) (x : s.Idx → EReal) (init : EReal)
    (j : t.Idx) : Ideal.hostReduceWindowAdd window strides lo hi h x init j = init + ∑ w, windowed window strides lo hi h x init j w := by
  unfold Ideal.hostReduceWindowAdd Host.reduceWindow
  have e := fold_add (fun n => windowed window strides lo hi h x init j ((⟨s.rank, window⟩ : Shape).rowMajor.symm n)) (List.finRange _) init
  rw [← Fin.sum_univ_def, Equiv.sum_comp (⟨s.rank, window⟩ : Shape).rowMajor.symm (windowed window strides lo hi h x init j)] at e
  refine Eq.trans ?_ e
  unfold windowed
  dsimp only
  congr!

/-- The last coordinate is the only one of a window of one row. -/
def lane : Fin 2176 ≃ (⟨4, ![1, 1, 1, 2176]⟩ : Shape).Idx where
  toFun s := ix4 (0 : Fin 1) (0 : Fin 1) (0 : Fin 1) s
  invFun w := w 3
  left_inv _ := rfl
  right_inv w := by
    idx_vars w
    obtain rfl : w0 = 0 := Subsingleton.elim _ _
    obtain rfl : w1 = 0 := Subsingleton.elim _ _
    obtain rfl : w2 = 0 := Subsingleton.elim _ _
    rfl

theorem suffix_apply (l : FVec Ideal S8x8x2176x2176 .f32) (f : ℕ → EReal) (b h : Fin 8) (t j : Fin 2176)
    (hl : ∀ s : Fin 2176, l (ix4 b h t s) = f s.val) : suffix l (ix4 b h t j) = ∑ s ∈ Finset.Ico j.val 2176, f s := by
  have hv : (broadcastInDim S_ ![] bcast_S_S_ (constant (F := Ideal) S_ .f32 0x00000000#32)) (Shape.Idx.first h_S_) = (0 : EReal) := Ideal.ofBits_zero_f32
  unfold suffix Host.reduceWindowAdd
  rw [Ideal.hostReduceWindowAdd_def, window_sum, hv, zero_add]
  generalize reduceWindows_S8x8x2176x2176_S8x8x2176x2176_w1s1p0_0_w1s1p0_0_w1s1p0_0_w2176s1p0_2175 = hw
  have hG : ∀ s : Fin 2176, windowed ![1, 1, 1, 2176] ![1, 1, 1, 1] ![0, 0, 0, 0] ![0, 0, 0, 2175] hw l 0 (ix4 b h t j) (lane s) = if j.val + s.val < 2176 then f (j.val + s.val) else 0 := by
    intro s
    have hb := b.isLt
    have hh := h.isLt
    have ht := t.isLt
    by_cases hs : j.val + s.val < 2176
    · rw [if_pos hs, ← hl ⟨j.val + s.val, hs⟩]
      refine (dif_pos fun a => ?_).trans (congrArg l (funext fun a => Fin.ext ?_))
      · match a with
        | ⟨0, _⟩ => show 0 ≤ b.val * 1 + 0 ∧ b.val * 1 + 0 - 0 < 8; omega
        | ⟨1, _⟩ => show 0 ≤ h.val * 1 + 0 ∧ h.val * 1 + 0 - 0 < 8; omega
        | ⟨2, _⟩ => show 0 ≤ t.val * 1 + 0 ∧ t.val * 1 + 0 - 0 < 2176; omega
        | ⟨3, _⟩ => show 0 ≤ j.val * 1 + s.val ∧ j.val * 1 + s.val - 0 < 2176; omega
      · match a with
        | ⟨0, _⟩ => show b.val * 1 + 0 - 0 = b.val; omega
        | ⟨1, _⟩ => show h.val * 1 + 0 - 0 = h.val; omega
        | ⟨2, _⟩ => show t.val * 1 + 0 - 0 = t.val; omega
        | ⟨3, _⟩ => show j.val * 1 + s.val - 0 = j.val + s.val; omega
    · rw [if_neg hs]
      refine dif_neg fun hin => hs ?_
      have h3 : 0 ≤ j.val * 1 + s.val ∧ j.val * 1 + s.val - 0 < 2176 := hin 3
      omega
  refine (Equiv.sum_comp lane _).symm.trans ?_
  rw [Finset.sum_congr rfl fun s _ => hG s,
    Fin.sum_univ_eq_sum_range (fun s : ℕ => if j.val + s < 2176 then f (j.val + s) else 0) 2176, ← Finset.sum_filter, Finset.sum_Ico_eq_sum_range]
  refine Finset.sum_congr (Finset.ext fun n => ?_) fun _ _ => rfl
  rw [Finset.mem_range, Finset.mem_filter, Finset.mem_range]
  omega

theorem weights_apply (y : FVec Ideal S8x8x2176x2176 .f32) (z : ℕ → EReal) (b h : Fin 8) (t s : Fin 2176)
    (hz : ∀ s : Fin 2176, y (ix4 b h t s) = z s.val) : weights y (ix4 b h t s) = wt z t.val 0 s.val := by
  have hL : ∀ s : Fin 2176, masked (Host.negf (softplus (Host.negf (Host.negf y)))) (ix4 b h t s) = lkm z t.val 0 s.val := fun s => by
    rw [masked_apply]
    unfold lkm
    by_cases hs : s.val < t.val
    · rw [if_pos hs, if_pos ⟨Nat.zero_le _, hs⟩, kp_eq, ← hz s]
      show -(softplus (Host.negf (Host.negf y)) (ix4 b h t s)) = _
      rw [softplus_apply]
      show -(sp (-(-(y (ix4 b h t s))))) = _
      rw [neg_neg]
    · rw [if_neg hs, if_neg fun h => hs h.2]
  have hS := fun j => suffix_apply _ (fun j => lkm z t.val 0 j) b h t j hL
  have hP := softplus_apply (Host.negf y) b h t s
  unfold weights
  rw [masked_apply]
  by_cases hs : s.val < t.val
  · rw [if_pos hs, ← ref_weight z t.val s.val hs s.isLt, ← hS s, ← hL s, ← hz s]
    show Ideal.exp (-(softplus (Host.negf y) (ix4 b h t s)) + _) = _
    rw [hP]
    rfl
  · rw [if_neg hs]
    exact (if_neg fun h => hs h.2).symm

theorem mixed_apply (v : FVec Ideal S8x2176x8x64 .f32) (a : FVec Ideal S8x8x2176x2176 .f32) (b : Fin 8) (t : Fin 2176) (j : Fin 512) :
    mixed v a (ix3 b t j) = ∑ s : Fin 2176, v (ix4 b s ⟨j.val / 64, by omega⟩ ⟨j.val % 64, by omega⟩) * a (ix4 b ⟨j.val / 64, by omega⟩ t s) := by
  unfold mixed
  pointwise

theorem res_eq (m : (ℓ : Loc nD τ sig) → Buf (Elt Ideal) ℓ) (c : Dev nD) :
    res_main_v25 m c = mixed (longer (m ((c.tc : Thread nD τ).loc main_arg2))) (weights (scores (longer (m ((c.tc : Thread nD τ).loc main_arg0))) (longer (m ((c.tc : Thread nD τ).loc main_arg1))))) := by
  unfold res_main_v25
  rfl

/-- The reference's result. -/
theorem result_apply (q k v : FVec Ideal S8x2064x8x64 .f32) :
    mixed (longer v) (weights (scores (longer q) (longer k))) = whole (attended q k v) := by
  funext i
  idx_vars i
  refine (mixed_apply _ _ i0 i1 i2).trans ?_
  show _ = attended q k v i0 i1.val i2
  unfold attended
  rw [← Finset.range_eq_Ico, ← Fin.sum_univ_eq_sum_range (fun s : ℕ => wt (score q k i0 ⟨i2.val / 64, by omega⟩ i1.val) i1.val 0 s
    * padded v i0 s ⟨i2.val / 64, by omega⟩ ⟨i2.val % 64, by omega⟩) 2176]
  refine Finset.sum_congr rfl fun s _ => ?_
  rw [longer_apply, weights_apply _ (score q k i0 ⟨i2.val / 64, by omega⟩ i1.val) _ _ _ _ fun s => scores_apply q k i0 _ i1 s]
  exact mul_comm _ _

end Cert.Stick.Ref
-- ==== Proof.StickTie.lean ====
/- Stick-breaking attention: the kernel's result is the reference's. -/
module

public import proofs.«01_k».proof.Defs
public import proofs.«01_k».proof.Proof.Gen.KernelIdeal.Value
public import proofs.«01_k».proof.Proof.Gen.ReferenceIdeal.Run
public import proofs.«01_k».proof.Proof.StickEnd
public import proofs.«01_k».proof.Proof.StickRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Stick

set_option maxHeartbeats 2000000 in
/-- The kernel's result is the reference's. -/
theorem algebraic : Cert.algebraic_KernelIdeal_ReferenceIdeal := by
  pair_intro
  · run_from Cert.KernelIdeal.Value.run_blocks m g
  · run_from Cert.ReferenceIdeal.Value.run m' g'
    all_goals
      obtain ⟨h0, h1, h2⟩ := hagree c
      rw [Cert.Stick.Ref.res_eq, h0, h1, h2]
    exact (Cert.Stick.Ref.result_apply (Q m c) (K m c) (W m c)).trans (final3 m c).symm

end Cert.Stick

end
-- ==== Proof.Flat.lean ====
/- A padded sequence laid out as flat rows: what the host hands the kernels that work row by row. -/
module

public import Idealize.ShloMosaic.Lib.Pointwise

@[expose] public section

noncomputable section

open Idealize.ShloMosaic

namespace Cert.Flat

/-- Row `r` of the batch of 8 sequences, each padded from 2064 to 2176 rows with the host's zero. -/
def flat {K : ℕ} (x : (⟨3, ![8, 2064, K]⟩ : Shape).Idx → EReal) (r : Fin 17408) (k : Fin K) : EReal :=
  if h : r.val / 2176 < 8 ∧ r.val % 2176 < 2064 then x (ix3 ⟨r.val / 2176, h.1⟩ ⟨r.val % 2176, h.2⟩ k)
  else FloatOps.sitofp (F := Ideal) FTy.f32 0#32

end Cert.Flat

end
-- ==== Proof.Merge.lean ====
/- The gated merge: at the extended reals the kernel's two result arrays are the reference's. -/
module

public import proofs.«01_k».proof.Defs
public import proofs.«01_k».proof.Proof.Gen.Kernel3Ideal.Value
public import proofs.«01_k».proof.Proof.Gen.Reference3Ideal.Run
public import proofs.«01_k».proof.Proof.Flat
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Merge

open Cert.Kernel3Ideal Cert.Kernel3Ideal.Gen
open Cert.Flat (flat)

/-- The residual stream plus the projected merge of the two gated branches, at one row and column. -/
def mixed (x : Vec Ideal S17408x1024 .f32) (oa ob : Vec Ideal S17408x512 .bf16) (ga gb : Vec Ideal S17408x1024 .bf16)
    (wa wb : Vec Ideal S512x1024 .bf16) (wo : Vec Ideal S1024x1024 .bf16) (r : Fin 17408) (j : Fin 1024) : EReal :=
  Ideal.ofBits .f32 0x3FB504F3#32 * x (ix2 r j)
    + ∑ k : Fin 1024, (ga (ix2 r k) * (∑ a : Fin 512, oa (ix2 r a) * wa (ix2 a k))
        + gb (ix2 r k) * (∑ a : Fin 512, ob (ix2 r a) * wb (ix2 a k))) * wo (ix2 k j)

/-- The same over the program's arguments: the padded sequences as flat rows. -/
def mixedArgs (x : Vec Ideal S8x2064x1024 .f32) (oa ob : Vec Ideal S8x2064x512 .f32) (ga gb : Vec Ideal S8x2064x1024 .f32)
    (wa wb : Vec Ideal S512x1024 .f32) (wo : Vec Ideal S1024x1024 .f32) (r : Fin 17408) (j : Fin 1024) : EReal :=
  Ideal.ofBits .f32 0x3FB504F3#32 * flat x r j
    + ∑ k : Fin 1024, (flat ga r k * (∑ a : Fin 512, flat oa r a * wa (ix2 a k))
        + flat gb r k * (∑ a : Fin 512, flat ob r a * wb (ix2 a k))) * wo (ix2 k j)

/-- The mean of a row of 1024 entries. -/
def mean (y : Fin 1024 → EReal) : EReal := Ideal.div (∑ k : Fin 1024, y k) (Ideal.ofBits .f32 0x44800000#32)

/-- The layer norm of a row, at one column. -/
def normed (y : Fin 1024 → EReal) (g b : EReal) (j : Fin 1024) : EReal :=
  (y j - mean y) * Ideal.rsqrt (mean (fun k => (y k - mean y) * (y k - mean y)) + Ideal.ofBits .f32 0x3727C5AC#32)
    * g + b

/-- The result array as a function of the flat arrays the host hands the kernel. -/
def merged (x : Vec Ideal S17408x1024 .f32) (oa ob : Vec Ideal S17408x512 .bf16) (ga gb : Vec Ideal S17408x1024 .bf16)
    (wa wb : Vec Ideal S512x1024 .bf16) (wo : Vec Ideal S1024x1024 .bf16) (g b : Vec Ideal S1x1024 .f32)
    (i : S17408x1024.Idx) : EReal :=
  normed (mixed x oa ob ga gb wa wb wo (i 0)) (g (ix2 0 (i 1))) (b (ix2 0 (i 1))) (i 1)

theorem merged_apply (x : Vec Ideal S17408x1024 .f32) (oa ob : Vec Ideal S17408x512 .bf16) (ga gb : Vec Ideal S17408x1024 .bf16)
    (wa wb : Vec Ideal S512x1024 .bf16) (wo : Vec Ideal S1024x1024 .bf16) (g b : Vec Ideal S1x1024 .f32) (r : Fin 17408)
    (j : Fin 1024) : merged x oa ob ga gb wa wb wo g b (ix2 r j)
      = normed (mixed x oa ob ga gb wa wb wo r) (g (ix2 0 j)) (b (ix2 0 j)) j := rfl

/-- The body's stored block at an index, over the blocks it reads. -/
theorem pay_apply (x : Vec Ideal S544x1024 .f32) (oa ob : Vec Ideal S544x512 .bf16) (ga gb : Vec Ideal S544x1024 .bf16)
    (wa wb : Vec Ideal S512x1024 .bf16) (wo : Vec Ideal S1024x1024 .bf16) (g b : Vec Ideal S1x1024 .f32)
    (r : Fin 544) (j : Fin 1024) :
    k0_pay1 (k0_pay3 ga oa wa gb ob wb x wo) (k0_pay4 g) (k0_pay5 b) (k0_pay6 ga oa wa gb ob wb x wo) (ix2 r j)
      = normed (fun j => Ideal.ofBits .f32 0x3FB504F3#32 * x (ix2 r j)
          + ∑ k : Fin 1024, (ga (ix2 r k) * (∑ a : Fin 512, oa (ix2 r a) * wa (ix2 a k))
            + gb (ix2 r k) * (∑ a : Fin 512, ob (ix2 r a) * wb (ix2 a k))) * wo (ix2 k j))
          (g (ix2 0 j)) (b (ix2 0 j)) j := by
  pointwise! [k0_pay1, k0_pay3, k0_pay4, k0_pay5, k0_pay6, normed, mean]

/-- The second result's block is the first's, rounded: at the extended reals the same block. -/
theorem pay2_eq (u : FVec Ideal S544x1024 .f32) (v w : FVec Ideal S1x1024 .f32) (z : FVec Ideal S544x1 .f32) (i : S544x1024.Idx) :
    k0_pay2 u v w z i = k0_pay1 u v w z i := by
  idx_vars i
  pointwise [k0_pay2]

/-- Every load of the body is of a whole block, so the stored blocks are the payload of the blocks themselves. -/
theorem pay_whole (x : Vec Ideal S544x1024 .f32) (oa ob : Vec Ideal S544x512 .bf16) (ga gb : Vec Ideal S544x1024 .bf16)
    (wa wb : Vec Ideal S512x1024 .bf16) (wo : Vec Ideal S1024x1024 .bf16) (g b : Vec Ideal S1x1024 .f32) :
    k0_pay7 x oa ob ga gb wa wb wo g b = k0_pay3 ga oa wa gb ob wb x wo ∧ k0_pay8 x oa ob ga gb wa wb wo g b = k0_pay4 g
      ∧ k0_pay9 x oa ob ga gb wa wb wo g b = k0_pay5 b ∧ k0_pay10 x oa ob ga gb wa wb wo g b = k0_pay6 ga oa wa gb ob wb x wo := by
  unfold k0_pay7 k0_pay8 k0_pay9 k0_pay10
  simp (disch := decide) only [View.ld_unit_lit', and_self]

variable (m : (ℓ : Loc nD τ sig) → Buf (Elt Ideal) ℓ) (ρ : Dev nD → PrngReg)

/-- Every window's block index at a grid point: the row blocks follow the point, the weights are one block. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] :=
  (by decide +kernel : ∀ t : Fin grid0.N, _)

/-- The result array the kernel leaves, as a function of the arrays the host hands it. -/
abbrev value (c : Dev nD) : S17408x1024.Idx → EReal :=
  merged (V m c main_v1) (V m c main_v4) (V m c main_v7) (V m c main_v10) (V m c main_v13) (V m c main_v14)
    (V m c main_v15) (V m c main_v16) (V m c main_v17) (V m c main_v18)

/-! What each block holds of the array it is cut from. -/

theorem row0 (c : Dev nD) (t : Fin cfg0.N) (r : Fin 544) (R : Fin 17408) (h : R.val = t.val * 544 + r.val) (k : Fin 1024) :
    iblk m c 0 t (ix2 r k) = V m c main_v1 (ix2 R k) := by
  obtain ⟨e, -⟩ := (idx t)
  blk_ext [iblk, e]

theorem row1 (c : Dev nD) (t : Fin cfg0.N) (r : Fin 544) (R : Fin 17408) (h : R.val = t.val * 544 + r.val) (k : Fin 512) :
    iblk m c 1 t (ix2 r k) = V m c main_v4 (ix2 R k) := by
  obtain ⟨e, -⟩ := (idx t).2
  blk_ext [iblk, e]

theorem row2 (c : Dev nD) (t : Fin cfg0.N) (r : Fin 544) (R : Fin 17408) (h : R.val = t.val * 544 + r.val) (k : Fin 512) :
    iblk m c 2 t (ix2 r k) = V m c main_v7 (ix2 R k) := by
  obtain ⟨e, -⟩ := (idx t).2.2
  blk_ext [iblk, e]

theorem row3 (c : Dev nD) (t : Fin cfg0.N) (r : Fin 544) (R : Fin 17408) (h : R.val = t.val * 544 + r.val) (k : Fin 1024) :
    iblk m c 3 t (ix2 r k) = V m c main_v10 (ix2 R k) := by
  obtain ⟨e, -⟩ := (idx t).2.2.2
  blk_ext [iblk, e]

theorem row4 (c : Dev nD) (t : Fin cfg0.N) (r : Fin 544) (R : Fin 17408) (h : R.val = t.val * 544 + r.val) (k : Fin 1024) :
    iblk m c 4 t (ix2 r k) = V m c main_v13 (ix2 R k) := by
  obtain ⟨e, -⟩ := (idx t).2.2.2.2
  blk_ext [iblk, e]

theorem row5 (c : Dev nD) (t : Fin cfg0.N) (r : Fin 512) (k : Fin 1024) :
    iblk m c 5 t (ix2 r k) = V m c main_v14 (ix2 r k) := by
  obtain ⟨e, -⟩ := (idx t).2.2.2.2.2
  blk_ext [iblk, e]

theorem row6 (c : Dev nD) (t : Fin cfg0.N) (r : Fin 512) (k : Fin 1024) :
    iblk m c 6 t (ix2 r k) = V m c main_v15 (ix2 r k) := by
  obtain ⟨e, -⟩ := (idx t).2.2.2.2.2.2
  blk_ext [iblk, e]

theorem row7 (c : Dev nD) (t : Fin cfg0.N) (r : Fin 1024) (k : Fin 1024) :
    iblk m c 7 t (ix2 r k) = V m c main_v16 (ix2 r k) := by
  obtain ⟨e, -⟩ := (idx t).2.2.2.2.2.2.2
  blk_ext [iblk, e]

theorem row8 (c : Dev nD) (t : Fin cfg0.N) (r : Fin 1) (k : Fin 1024) :
    iblk m c 8 t (ix2 r k) = V m c main_v17 (ix2 r k) := by
  obtain ⟨e, -⟩ := (idx t).2.2.2.2.2.2.2.2
  blk_ext [iblk, e]

theorem row9 (c : Dev nD) (t : Fin cfg0.N) (r : Fin 1) (k : Fin 1024) :
    iblk m c 9 t (ix2 r k) = V m c main_v18 (ix2 r k) := by
  obtain ⟨e, -⟩ := (idx t).2.2.2.2.2.2.2.2.2
  blk_ext [iblk, e]

/-- The blocks a point reads, put through the row function, give the row function of the arrays at the point's rows. -/
theorem block (c : Dev nD) (t : Fin cfg0.N) (r : Fin 544) (j : Fin 1024) (R : Fin 17408) (h : R.val = t.val * 544 + r.val) :
    k0_pay1 (k0_pay3 (iblk m c 3 t) (iblk m c 1 t) (iblk m c 5 t) (iblk m c 4 t) (iblk m c 2 t) (iblk m c 6 t) (iblk m c 0 t) (iblk m c 7 t))
      (k0_pay4 (iblk m c 8 t)) (k0_pay5 (iblk m c 9 t))
      (k0_pay6 (iblk m c 3 t) (iblk m c 1 t) (iblk m c 5 t) (iblk m c 4 t) (iblk m c 2 t) (iblk m c 6 t) (iblk m c 0 t) (iblk m c 7 t)) (ix2 r j)
      = value m c (ix2 R j) := by
  refine (pay_apply _ _ _ _ _ _ _ _ _ _ r j).trans ?_
  simp only [row0 m c t r R h, row1 m c t r R h, row2 m c t r R h, row3 m c t r R h, row4 m c t r R h, row5 m c t, row6 m c t, row7 m c t, row8 m c t, row9 m c t]
  rfl

/-- The block index `y` of the result's block at point `t` is row `544 t + y` of the array. -/
theorem out_idx (t : Fin cfg0.N) (r : Fin 544) (j : Fin 1024) :
    ∃ R : Fin 17408, R.val = t.val * 544 + r.val ∧ ((View.whole main_v19_0).slice (win0_10.rect t)).emb (ix2 r j) = ix2 R j := by
  have e := (idx t).2.2.2.2.2.2.2.2.2.2.1
  have ht : t.val < 32 := t.isLt
  refine ⟨⟨t.val * 544 + r.val, by omega⟩, rfl, ?_⟩
  blk_ext [e]

theorem final10 (c : Dev nD) : (dats m 0 c).arrAt 10 cfg0.N = value m c := by
  refine (dats m 0 c).arrAt_eq_of_covers 10 _ (by decide +kernel) fun t hf y => ?_
  blk_simp
  rw [after0_10]
  idx_vars y
  frame_out
  obtain ⟨R, hR, e⟩ := out_idx t y0 y1
  obtain ⟨e7, e8, e9, e10⟩ := pay_whole (iblk m c 0 t) (iblk m c 1 t) (iblk m c 2 t) (iblk m c 3 t) (iblk m c 4 t)
    (iblk m c 5 t) (iblk m c 6 t) (iblk m c 7 t) (iblk m c 8 t) (iblk m c 9 t)
  refine Eq.trans ?_ (congrArg (value m c) e.symm)
  rw [← block m c t y0 y1 R hR, e7, e8, e9, e10]

theorem final11 (c : Dev nD) : (dats m 0 c).arrAt 11 cfg0.N = value m c := by
  refine (dats m 0 c).arrAt_eq_of_covers 11 _ (by decide +kernel) fun t hf y => ?_
  blk_simp
  rw [after0_11]
  idx_vars y
  frame_out
  obtain ⟨R, hR, e⟩ := out_idx t y0 y1
  obtain ⟨e7, e8, e9, e10⟩ := pay_whole (iblk m c 0 t) (iblk m c 1 t) (iblk m c 2 t) (iblk m c 3 t) (iblk m c 4 t)
    (iblk m c 5 t) (iblk m c 6 t) (iblk m c 7 t) (iblk m c 8 t) (iblk m c 9 t)
  refine Eq.trans ?_ (congrArg (value m c) e.symm)
  rw [← block m c t y0 y1 R hR, e7, e8, e9, e10]
  exact pay2_eq _ _ _ _ (ix2 y0 y1)

/-! What the host hands the kernel, read at a row and a column: the padded sequences as flat rows, the weights as they are. -/

theorem host (c : Dev nD) :
    (∀ (r : Fin 17408) (k : Fin 1024), (V m c main_v1 : S17408x1024.Idx → EReal) (ix2 r k)
      = flat (m ((c : Thread nD τ).loc main_arg0)) r k)
    ∧ (∀ (r : Fin 17408) (k : Fin 512), (V m c main_v4 : S17408x512.Idx → EReal) (ix2 r k)
      = flat (m ((c : Thread nD τ).loc main_arg1)) r k)
    ∧ (∀ (r : Fin 17408) (k : Fin 512), (V m c main_v7 : S17408x512.Idx → EReal) (ix2 r k)
      = flat (m ((c : Thread nD τ).loc main_arg2)) r k)
    ∧ (∀ (r : Fin 17408) (k : Fin 1024), (V m c main_v10 : S17408x1024.Idx → EReal) (ix2 r k)
      = flat (m ((c : Thread nD τ).loc main_arg3)) r k)
    ∧ (∀ (r : Fin 17408) (k : Fin 1024), (V m c main_v13 : S17408x1024.Idx → EReal) (ix2 r k)
      = flat (m ((c : Thread nD τ).loc main_arg4)) r k)
    ∧ (∀ (r : Fin 512) (k : Fin 1024), (V m c main_v14 : S512x1024.Idx → EReal) (ix2 r k)
      = m ((c : Thread nD τ).loc main_arg5) (ix2 r k))
    ∧ (∀ (r : Fin 512) (k : Fin 1024), (V m c main_v15 : S512x1024.Idx → EReal) (ix2 r k)
      = m ((c : Thread nD τ).loc main_arg6) (ix2 r k))
    ∧ (∀ (r : Fin 1024) (k : Fin 1024), (V m c main_v16 : S1024x1024.Idx → EReal) (ix2 r k)
      = m ((c : Thread nD τ).loc main_arg7) (ix2 r k))
    ∧ (∀ (k : Fin 1024), (V m c main_v17 : S1x1024.Idx → EReal) (ix2 0 k) = m ((c : Thread nD τ).loc main_arg8) (ix1 k))
    ∧ (∀ (k : Fin 1024), (V m c main_v18 : S1x1024.Idx → EReal) (ix2 0 k) = m ((c : Thread nD τ).loc main_arg9) (ix1 k)) := by
  refine ⟨?_, ?_, ?_, ?_, ?_, ?_, ?_, ?_, ?_, ?_⟩ <;> intros <;>
    (unfold V
     simp only [hostOps0, hostOps0_1, hostOps0_2, hostOps0_3, hostOps0_4, hostOps0_5, hostOps0_6, hostOps0_7, hostOps0_8,
       hostOps0_9, hostOps0_10, List.flatten_cons, List.flatten_nil, List.append_nil, List.cons_append, List.nil_append]
     entry_read
     try simp only [StableHlo.TRef.toBuf, StableHlo.TRef.ofBuf, cast_eq]
     pointwise [flat])

/-- The kernel's result array at a row and a column, over the program's arguments. -/
theorem value_apply (c : Dev nD) (r : Fin 17408) (j : Fin 1024) : value m c (ix2 r j)
    = normed (mixedArgs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) r)
      (m ((c : Thread nD τ).loc main_arg8) (ix1 j)) (m ((c : Thread nD τ).loc main_arg9) (ix1 j)) j := by
  obtain ⟨e0, e1, e2, e3, e4, e5, e6, e7, e8, e9⟩ := host m c
  refine (merged_apply _ _ _ _ _ _ _ _ _ _ r j).trans ?_
  rw [e8, e9]
  congr 1
  funext k
  unfold mixed mixedArgs
  simp only [e0, e1, e2, e3, e4, e5, e6, e7]

/-- The reference's first result at a row and a column. -/
theorem reference_apply (m : (ℓ : Loc Cert.Reference3Ideal.nD Cert.Reference3Ideal.τ Cert.Reference3Ideal.sig) → Buf (Elt Ideal) ℓ) (c : Dev Cert.Reference3Ideal.nD) (r : Fin 17408)
    (j : Fin 1024) : (Cert.Reference3Ideal.Value.res_main_v38 m c : S17408x1024.Idx → EReal) (ix2 r j)
      = normed (mixedArgs (m ((c : Thread Cert.Reference3Ideal.nD Cert.Reference3Ideal.τ).loc Cert.Reference3Ideal.main_arg0))
          (m ((c : Thread Cert.Reference3Ideal.nD Cert.Reference3Ideal.τ).loc Cert.Reference3Ideal.main_arg1))
          (m ((c : Thread Cert.Reference3Ideal.nD Cert.Reference3Ideal.τ).loc Cert.Reference3Ideal.main_arg2))
          (m ((c : Thread Cert.Reference3Ideal.nD Cert.Reference3Ideal.τ).loc Cert.Reference3Ideal.main_arg3))
          (m ((c : Thread Cert.Reference3Ideal.nD Cert.Reference3Ideal.τ).loc Cert.Reference3Ideal.main_arg4))
          (m ((c : Thread Cert.Reference3Ideal.nD Cert.Reference3Ideal.τ).loc Cert.Reference3Ideal.main_arg5))
          (m ((c : Thread Cert.Reference3Ideal.nD Cert.Reference3Ideal.τ).loc Cert.Reference3Ideal.main_arg6))
          (m ((c : Thread Cert.Reference3Ideal.nD Cert.Reference3Ideal.τ).loc Cert.Reference3Ideal.main_arg7)) r)
        ((m ((c : Thread Cert.Reference3Ideal.nD Cert.Reference3Ideal.τ).loc Cert.Reference3Ideal.main_arg8)) (ix1 j))
        ((m ((c : Thread Cert.Reference3Ideal.nD Cert.Reference3Ideal.τ).loc Cert.Reference3Ideal.main_arg9)) (ix1 j)) j := by
  unfold Cert.Reference3Ideal.Value.res_main_v38
  clean_types
  pointwise [normed, mean, mixedArgs, flat]

/-- The reference's first result is the kernel's, over equal arguments. -/
theorem reference (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
    (h5 : m' ((c.tc : Thread Cert.Reference3Ideal.nD Cert.Reference3Ideal.τ).loc Cert.Reference3Ideal.main_arg5) = m ((c.tc : Thread nD τ).loc main_arg5))
    (h6 : m' ((c.tc : Thread Cert.Reference3Ideal.nD Cert.Reference3Ideal.τ).loc Cert.Reference3Ideal.main_arg6) = m ((c.tc : Thread nD τ).loc main_arg6))
    (h7 : m' ((c.tc : Thread Cert.Reference3Ideal.nD Cert.Reference3Ideal.τ).loc Cert.Reference3Ideal.main_arg7) = m ((c.tc : Thread nD τ).loc main_arg7))
    (h8 : m' ((c.tc : Thread Cert.Reference3Ideal.nD Cert.Reference3Ideal.τ).loc Cert.Reference3Ideal.main_arg8) = m ((c.tc : Thread nD τ).loc main_arg8))
    (h9 : m' ((c.tc : Thread Cert.Reference3Ideal.nD Cert.Reference3Ideal.τ).loc Cert.Reference3Ideal.main_arg9) = m ((c.tc : Thread nD τ).loc main_arg9)) :
    (Cert.Reference3Ideal.Value.res_main_v38 m' c : S17408x1024.Idx → EReal) = value m c := by
  funext i
  idx_vars i
  rw [reference_apply, value_apply, h0, h1, h2, h3, h4, h5, h6, h7, h8, h9]

/-- The kernel's two results are the reference's. -/
theorem algebraic : Cert.algebraic_Kernel3Ideal_Reference3Ideal := by
  pair_intro
  · run_from Cert.Kernel3Ideal.Value.run_blocks m g
  · run_from Cert.Reference3Ideal.Value.run m' g'
    · obtain ⟨h0, h1, h2, h3, h4, h5, h6, h7, h8, h9⟩ := hagree c
      exact (reference m m' c h0 h1 h2 h3 h4 h5 h6 h7 h8 h9).trans (final10 m c).symm
    · obtain ⟨h0, h1, h2, h3, h4, h5, h6, h7, h8, h9⟩ := hagree c
      exact (reference m m' c h0 h1 h2 h3 h4 h5 h6 h7 h8 h9).trans (final11 m c).symm

end Cert.Merge

end
-- ==== Proof.ProjPay.lean ====
/- The input projection: the mathematics, and one block of the kernel's body. -/
module

public import proofs.«01_k».proof.Defs
public import proofs.«01_k».proof.Proof.Gen.Kernel2Ideal.Value
public import proofs.«01_k».proof.Proof.Gen.Reference2Ideal.Run
public import proofs.«01_k».proof.Proof.Flat
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Proj

open Cert.Kernel2Ideal Cert.Kernel2Ideal.Gen
open Cert.Flat (flat)

/-! ## The mathematics, over the program's arguments -/

/-- Column `n` of the projected row `R`. -/
def proj (x : Vec Ideal S8x2064x1024 .f32) (w : Vec Ideal S1024x5120 .f32) (R : Fin 17408) (n : ℕ) : EReal :=
  if h : n < 5120 then ∑ k : Fin 1024, flat x R k * w (ix2 k ⟨n, h⟩) else 0

/-- The rotation's angle of position `t` in the pair of lanes `i`. -/
def angle (t i : ℕ) : EReal :=
  FloatOps.sitofp (F := Ideal) FTy.f32 (BitVec.ofNat 32 t)
    * Ideal.pow (Ideal.ofBits .f32 0x461C4000#32)
        (Ideal.div (-(FloatOps.sitofp (F := Ideal) FTy.f32 (BitVec.ofNat 32 i))) (Ideal.ofBits .f32 0x42000000#32))

/-- Column `j` of the 512 columns from `o`, rotated by the row's position. -/
def rope (x : Vec Ideal S8x2064x1024 .f32) (w : Vec Ideal S1024x5120 .f32) (o : ℕ) (R : Fin 17408) (j : ℕ) : EReal :=
  proj x w R (o + j) * Ideal.cos (angle (R.val % 2176) (j % 32))
    + (if j % 64 < 32 then proj x w R (o + (j + 32)) else proj x w R (o + (j - 32)))
      * (if j % 64 < 32 then -Ideal.sin (angle (R.val % 2176) (j % 32)) else Ideal.sin (angle (R.val % 2176) (j % 32)))

/-! ## One block of the body -/

/-- A block of rows times one column of the weights. -/
def bproj (x : Vec Ideal S544x1024 .bf16) (w : Vec Ideal S1024x5120 .bf16) (r : Fin 544) (n : ℕ) : EReal :=
  if h : n < 5120 then ∑ k : Fin 1024, x (ix2 r k) * w (ix2 k ⟨n, h⟩) else 0

theorem bproj_eq (x : Vec Ideal S544x1024 .bf16) (w : Vec Ideal S1024x5120 .bf16) (r : Fin 544) (n : ℕ) (h : n < 5120) :
    ∑ k : Fin 1024, x (ix2 r k) * w (ix2 k ⟨n, h⟩) = bproj x w r n := by
  rw [bproj, dif_pos h]

/-- Column `j` of the 512 columns from `o` of a block, rotated by the two tables' rows. -/
def brope (x : Vec Ideal S544x1024 .bf16) (w : Vec Ideal S1024x5120 .bf16) (ct st : Vec Ideal S544x128 .f32) (o : ℕ) (r : Fin 544)
    (j : ℕ) : EReal :=
  bproj x w r (o + j) * ct (ix2 r ⟨j % 128, Nat.mod_lt _ (by norm_num)⟩)
    + (if j % 64 < 32 then bproj x w r (o + (j + 32)) else bproj x w r (o + (j - 32)))
      * st (ix2 r ⟨j % 128, Nat.mod_lt _ (by norm_num)⟩)

/-- The lane mask: the first half of each 64-lane head. -/
theorem mask (r : Fin 544) (j : Fin 128) : k0_pay14 (ix2 r j) = (if j.val % 64 < 32 then 1#1 else 0#1)
    ∧ k0_pay22 (ix2 r j) = (if j.val % 64 < 32 then 1#1 else 0#1) := by
  constructor
  · pointwise [k0_pay14]
    revert j
    decide +kernel
  · pointwise [k0_pay22]
    revert j
    decide +kernel

/-- A rotated column read off its tile: the three columns and the lane are the ones of `brope`. -/
theorem rope_of (x : Vec Ideal S544x1024 .bf16) (w : Vec Ideal S1024x5120 .bf16) (ct st : Vec Ideal S544x128 .f32) (o : ℕ) (r : Fin 544)
    (j n1 n2 n3 : ℕ) (p1 : n1 < 5120) (p2 : n2 < 5120) (p3 : n3 < 5120) (l : Fin 128) (hl : l.val = j % 128) (h1 : n1 = o + j) (h2 : l.val % 64 < 32 → n2 = o + (j + 32))
    (h3 : ¬ l.val % 64 < 32 → n3 = o + (j - 32)) :
    (∑ k : Fin 1024, x (ix2 r k) * w (ix2 k ⟨n1, p1⟩)) * ct (ix2 r l)
        + Scalar.select (if l.val % 64 < 32 then 1#1 else 0#1) (∑ k : Fin 1024, x (ix2 r k) * w (ix2 k ⟨n2, p2⟩))
            (∑ k : Fin 1024, x (ix2 r k) * w (ix2 k ⟨n3, p3⟩)) * st (ix2 r l)
      = brope x w ct st o r j := by
  rw [bproj_eq, bproj_eq, bproj_eq]
  have e : (⟨j % 128, Nat.mod_lt _ (by norm_num)⟩ : Fin 128) = l := Fin.ext hl.symm
  have hm : l.val % 64 = j % 64 := by omega
  unfold brope
  rw [e, h1, hm]
  rw [hm] at h2 h3
  by_cases h : j % 64 < 32
  · rw [if_pos h, if_pos h, h2 h]; rfl
  · rw [if_neg h, if_neg h, h3 h]; rfl

/-- The four tiles of 128 lanes, side by side, are the rotated columns. -/
theorem rope_tiles (x : Vec Ideal S544x1024 .bf16) (w : Vec Ideal S1024x5120 .bf16) (ct st : Vec Ideal S544x128 .f32) (o : ℕ) (r : Fin 544)
    (j : ℕ) (hj : j < 512) (ho : o ≤ 2048) :
    (if h1 : j < 128 then
        (∑ k : Fin 1024, x (ix2 r k) * w (ix2 k ⟨o + j, by omega⟩)) * ct (ix2 r ⟨j, by omega⟩)
          + Scalar.select (if (j) % 64 < 32 then 1#1 else 0#1) (∑ k : Fin 1024, x (ix2 r k) * w (ix2 k ⟨o + (j + 128 - 96) % 128, by omega⟩))
              (∑ k : Fin 1024, x (ix2 r k) * w (ix2 k ⟨o + (j + 128 - 32) % 128, by omega⟩)) * st (ix2 r ⟨j, by omega⟩)
      else if h2 : j - 128 < 128 then
        (∑ k : Fin 1024, x (ix2 r k) * w (ix2 k ⟨o + (128 + (j - 128)), by omega⟩)) * ct (ix2 r ⟨j - 128, by omega⟩)
          + Scalar.select (if (j - 128) % 64 < 32 then 1#1 else 0#1) (∑ k : Fin 1024, x (ix2 r k) * w (ix2 k ⟨o + (128 + (j - 128 + 128 - 96) % 128), by omega⟩))
              (∑ k : Fin 1024, x (ix2 r k) * w (ix2 k ⟨o + (128 + (j - 128 + 128 - 32) % 128), by omega⟩)) * st (ix2 r ⟨j - 128, by omega⟩)
      else if h3 : j - 128 - 128 < 128 then
        (∑ k : Fin 1024, x (ix2 r k) * w (ix2 k ⟨o + (256 + (j - 128 - 128)), by omega⟩)) * ct (ix2 r ⟨j - 128 - 128, by omega⟩)
          + Scalar.select (if (j - 128 - 128) % 64 < 32 then 1#1 else 0#1) (∑ k : Fin 1024, x (ix2 r k) * w (ix2 k ⟨o + (256 + (j - 128 - 128 + 128 - 96) % 128), by omega⟩))
              (∑ k : Fin 1024, x (ix2 r k) * w (ix2 k ⟨o + (256 + (j - 128 - 128 + 128 - 32) % 128), by omega⟩)) * st (ix2 r ⟨j - 128 - 128, by omega⟩)
      else
        (∑ k : Fin 1024, x (ix2 r k) * w (ix2 k ⟨o + (384 + (j - 128 - 128 - 128)), by omega⟩)) * ct (ix2 r ⟨j - 128 - 128 - 128, by omega⟩)
          + Scalar.select (if (j - 128 - 128 - 128) % 64 < 32 then 1#1 else 0#1) (∑ k : Fin 1024, x (ix2 r k) * w (ix2 k ⟨o + (384 + (j - 128 - 128 - 128 + 128 - 96) % 128), by omega⟩))
              (∑ k : Fin 1024, x (ix2 r k) * w (ix2 k ⟨o + (384 + (j - 128 - 128 - 128 + 128 - 32) % 128), by omega⟩)) * st (ix2 r ⟨j - 128 - 128 - 128, by omega⟩) : EReal)
      = brope x w ct st o r j := by
  by_cases h1 : j < 128
  · rw [dif_pos h1]; exact rope_of x w ct st o r j _ _ _ _ _ _ ⟨j, by omega⟩ (by dsimp only; omega) (by omega) (by dsimp only; omega) (by dsimp only; omega)
  rw [dif_neg h1]
  by_cases h2 : j - 128 < 128
  · rw [dif_pos h2]; exact rope_of x w ct st o r j _ _ _ _ _ _ ⟨j - 128, by omega⟩ (by dsimp only; omega) (by omega) (by dsimp only; omega) (by dsimp only; omega)
  rw [dif_neg h2]
  by_cases h3 : j - 128 - 128 < 128
  · rw [dif_pos h3]; exact rope_of x w ct st o r j _ _ _ _ _ _ ⟨j - 128 - 128, by omega⟩ (by dsimp only; omega) (by omega) (by dsimp only; omega) (by dsimp only; omega)
  rw [dif_neg h3]
  exact rope_of x w ct st o r j _ _ _ _ _ _ ⟨j - 128 - 128 - 128, by omega⟩ (by dsimp only; omega) (by omega) (by dsimp only; omega) (by dsimp only; omega)

/-- The query columns stored, rotated and scaled. -/
theorem pay20_apply (x : Vec Ideal S544x1024 .bf16) (w : Vec Ideal S1024x5120 .bf16) (b : Vec Ideal S1x2048 .f32)
    (ct st : Vec Ideal S544x128 .f32) (r : Fin 544) (j : Fin 512) :
    k0_pay20 (k0_pay33 x w b ct st) (k0_pay34 x w b ct st) (k0_pay13 (k0_pay32 x w b ct st) (View.ld w r0_7)) k0_pay14
      (k0_pay15 (k0_pay32 x w b ct st) (k0_pay33 x w b ct st) (k0_pay34 x w b ct st) (View.ld w r0_7))
      (k0_pay16 (k0_pay32 x w b ct st) (k0_pay33 x w b ct st) (k0_pay34 x w b ct st) (View.ld w r0_7))
      (k0_pay18 (k0_pay32 x w b ct st) (View.ld w r0_7)) (k0_pay19 (k0_pay32 x w b ct st) (k0_pay33 x w b ct st) (View.ld w r0_7))
      (ix2 r j) = brope x w ct st 1536 r j.val * Ideal.ofBits .f32 0x3E000000#32 := by
  unfold k0_pay33 k0_pay34 k0_pay32
  simp (disch := decide) only [View.ld_unit_lit']
  pointwise [k0_pay20, k0_pay13, k0_pay15, k0_pay16, k0_pay18, k0_pay17, k0_pay19, k0_pay3, k0_pay4, k0_pay5, mask]
  exact congrArg (fun z : EReal => z * Ideal.ofBits .f32 0x3E000000#32) (rope_tiles x w ct st 1536 r j.val j.isLt (by decide))

/-- The key columns, rotated. -/
theorem pay26_apply (x : Vec Ideal S544x1024 .bf16) (w : Vec Ideal S1024x5120 .bf16) (b : Vec Ideal S1x2048 .f32)
    (ct st : Vec Ideal S544x128 .f32) (r : Fin 544) (j : Fin 512) :
    k0_pay26 (k0_pay33 x w b ct st) (k0_pay34 x w b ct st) (k0_pay35 x w b ct st) (k0_pay36 x w b ct st) (k0_pay37 x w b ct st)
      (k0_pay38 x w b ct st) (ix2 r j) = brope x w ct st 2048 r j.val := by
  unfold k0_pay38 k0_pay37 k0_pay36 k0_pay35 k0_pay33 k0_pay34 k0_pay32
  simp (disch := decide) only [View.ld_unit_lit']
  pointwise [k0_pay26, k0_pay21, k0_pay24, k0_pay25, k0_pay23, k0_pay3, k0_pay4, k0_pay5, mask]
  exact rope_tiles x w ct st 2048 r j.val j.isLt (by decide)

/-- The plain columns' stored blocks at an index. -/
theorem pay_apply (x : Vec Ideal S544x1024 .bf16) (w : Vec Ideal S1024x5120 .bf16) (b : Vec Ideal S1x2048 .f32)
    (ct st : Vec Ideal S544x128 .f32) (r : Fin 544) (j : Fin 512) :
    k0_pay6 (x) (View.ld w r0_2) (ix2 r j) = bproj x w r j.val * Ideal.ofBits .f32 0x3E000000#32
      ∧ k0_pay8 (x) (View.ld w r0_4) (ix3 0 r j) = bproj x w r (512 + j.val)
      ∧ k0_pay11 (x) (View.ld w r0_6) (ix3 0 r j) = bproj x w r (1024 + j.val)
      ∧ k0_pay30 (k0_pay32 x w b ct st) (View.ld w r0_9) (ix3 0 r j) = bproj x w r (2560 + j.val)
      ∧ k0_pay9 (x) (View.ld w r0_4) (ix2 r j) = bproj x w r (512 + j.val)
      ∧ k0_pay12 (x) (View.ld w r0_6) (ix2 r j) = bproj x w r (1024 + j.val)
      ∧ k0_pay31 (k0_pay32 x w b ct st) (View.ld w r0_9) (ix2 r j) = bproj x w r (2560 + j.val) := by
  unfold k0_pay32
  simp (disch := decide) only [View.ld_unit_lit']
  refine ⟨?_, ?_, ?_, ?_, ?_, ?_, ?_⟩ <;>
    (pointwise [k0_pay6, k0_pay8, k0_pay7, k0_pay11, k0_pay10, k0_pay30, k0_pay29, k0_pay9, k0_pay12, k0_pay31, k0_pay3]
     first | exact bproj_eq x w r _ _ | exact congrArg (· * _) ((bproj_eq x w r _ _).trans (congrArg (bproj x w r) (by omega))))

/-- The gates' stored blocks at an index. -/
theorem gate_apply (x : Vec Ideal S544x1024 .bf16) (w : Vec Ideal S1024x5120 .bf16) (b : Vec Ideal S1x2048 .f32)
    (ct st : Vec Ideal S544x128 .f32) (r : Fin 544) (j : Fin 1024) :
    k0_pay1 (k0_pay32 x w b ct st) (View.ld w r0_10) (View.ld b r0_11) (ix2 r j)
        = Ideal.logistic (bproj x w r (3072 + j.val) + b (ix2 0 ⟨j.val, by omega⟩))
      ∧ k0_pay2 (k0_pay32 x w b ct st) (View.ld w r0_12) (View.ld b r0_13) (ix2 r j)
        = Ideal.logistic (bproj x w r (4096 + j.val) + b (ix2 0 ⟨1024 + j.val, by omega⟩)) := by
  unfold k0_pay32
  simp (disch := decide) only [View.ld_unit_lit']
  refine ⟨?_, ?_⟩ <;>
    (pointwise [k0_pay1, k0_pay2, k0_pay3]
     exact congrArg Ideal.logistic (congrArg (· + _) (bproj_eq x w r _ _)))

end Cert.Proj

end
-- ==== Proof.Proj.lean ====
/- The input projection: at the extended reals the kernel's twelve result arrays are the reference's. -/
module

public import proofs.«01_k».proof.Defs
public import proofs.«01_k».proof.Proof.Gen.Kernel2Ideal.Value
public import proofs.«01_k».proof.Proof.Gen.Reference2Ideal.Run
public import proofs.«01_k».proof.Proof.ProjPay
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Proj

open Cert.Kernel2Ideal Cert.Kernel2Ideal.Gen
open Cert.Flat (flat)

variable (m : (ℓ : Loc nD τ sig) → Buf (Elt Ideal) ℓ) (ρ : Dev nD → PrngReg)

/-! ## What the host hands the kernel -/

theorem host (c : Dev nD) :
    (∀ (r : Fin 17408) (k : Fin 1024), (V m c main_v25 : S17408x1024.Idx → EReal) (ix2 r k)
      = flat (m ((c : Thread nD τ).loc main_arg0)) r k)
    ∧ (∀ (r : Fin 1024) (k : Fin 5120), (V m c main_v26 : S1024x5120.Idx → EReal) (ix2 r k)
      = m ((c : Thread nD τ).loc main_arg1) (ix2 r k))
    ∧ (∀ (k : Fin 2048), (V m c main_v27 : S1x2048.Idx → EReal) (ix2 0 k) = m ((c : Thread nD τ).loc main_arg2) (ix1 k)) := by
  refine ⟨?_, ?_, ?_⟩ <;> intros <;>
    (unfold V
     simp only [hostOps0, hostOps0_1, hostOps0_2, List.flatten_cons, List.flatten_nil, List.append_nil, List.cons_append, List.nil_append]
     entry_read
     try simp only [StableHlo.TRef.toBuf, StableHlo.TRef.ofBuf, cast_eq]
     pointwise [flat])

/-- The two tables at a position and a lane. -/
theorem tables (c : Dev nD) (t : Fin 2176) (l : Fin 128) :
    (V m c main_v19 : S2176x128.Idx → EReal) (ix2 t l) = Ideal.cos (angle t.val (l.val % 32))
    ∧ (V m c main_v24 : S2176x128.Idx → EReal) (ix2 t l)
      = if l.val % 64 < 32 then -Ideal.sin (angle t.val (l.val % 32)) else Ideal.sin (angle t.val (l.val % 32)) := by
  constructor <;>
    (unfold V
     simp only [hostOps0, hostOps0_1, hostOps0_2, List.flatten_cons, List.flatten_nil, List.append_nil, List.cons_append, List.nil_append]
     entry_read
     pointwise [angle]
     by_cases h : l.val % 64 < 32
     · have e : l.val % 64 = l.val % 32 := by omega
       simp only [dif_pos h, if_pos h]
       rw [e]
     · have e : l.val % 64 - 32 = l.val % 32 := by omega
       simp only [dif_neg h, if_neg h]
       rw [e])

/-- Every window's block index at a grid point. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0]
    ∧ (win0_5.index t = ![t.val, 0] ∧ win0_8.index t = ![t.val, 0] ∧ win0_11.index t = ![t.val, 0] ∧ win0_12.index t = ![t.val, 0]
      ∧ win0_13.index t = ![t.val, 0] ∧ win0_14.index t = ![t.val, 0] ∧ win0_15.index t = ![t.val, 0] ∧ win0_16.index t = ![t.val, 0])
    ∧ win0_6.index t = ![t.val / 4, t.val % 4, 0] ∧ win0_7.index t = ![t.val / 4, t.val % 4, 0]
    ∧ win0_9.index t = ![t.val / 4, t.val % 4, 0] ∧ win0_10.index t = ![t.val / 4, t.val % 4, 0] :=
  (by decide +kernel : ∀ t : Fin grid0.N, _)

/-! ## What each block holds of the array it is cut from -/

theorem row0 (c : Dev nD) (t : Fin cfg0.N) (r : Fin 544) (R : Fin 17408) (h : R.val = t.val * 544 + r.val) (k : Fin 1024) :
    iblk m c 0 t (ix2 r k) = flat (m ((c : Thread nD τ).loc main_arg0)) R k := by
  refine Eq.trans ?_ ((host m c).1 R k)
  obtain ⟨e, -⟩ := idx t
  blk_ext [iblk, e]

theorem row1 (c : Dev nD) (t : Fin cfg0.N) (k : Fin 1024) (j : Fin 5120) :
    iblk m c 1 t (ix2 k j) = m ((c : Thread nD τ).loc main_arg1) (ix2 k j) := by
  refine Eq.trans ?_ ((host m c).2.1 k j)
  obtain ⟨e, -⟩ := (idx t).2
  blk_ext [iblk, e]

theorem row2 (c : Dev nD) (t : Fin cfg0.N) (j : Fin 2048) :
    iblk m c 2 t (ix2 0 j) = m ((c : Thread nD τ).loc main_arg2) (ix1 j) := by
  refine Eq.trans ?_ ((host m c).2.2 j)
  obtain ⟨e, -⟩ := (idx t).2.2
  blk_ext [iblk, e]

theorem row3 (c : Dev nD) (t : Fin cfg0.N) (r : Fin 544) (R : Fin 17408) (h : R.val = t.val * 544 + r.val) (l : Fin 128) :
    iblk m c 3 t (ix2 r l) = Ideal.cos (angle (R.val % 2176) (l.val % 32)) := by
  refine Eq.trans ?_ ((tables m c ⟨R.val % 2176, by omega⟩ l).1)
  obtain ⟨e, -⟩ := (idx t).2.2.2
  blk_ext [iblk, e]

theorem row4 (c : Dev nD) (t : Fin cfg0.N) (r : Fin 544) (R : Fin 17408) (h : R.val = t.val * 544 + r.val) (l : Fin 128) :
    iblk m c 4 t (ix2 r l)
      = if l.val % 64 < 32 then -Ideal.sin (angle (R.val % 2176) (l.val % 32)) else Ideal.sin (angle (R.val % 2176) (l.val % 32)) := by
  refine Eq.trans ?_ ((tables m c ⟨R.val % 2176, by omega⟩ l).2)
  obtain ⟨e, -⟩ := (idx t).2.2.2.2
  blk_ext [iblk, e]

theorem blk_proj (c : Dev nD) (t : Fin cfg0.N) (r : Fin 544) (R : Fin 17408) (h : R.val = t.val * 544 + r.val) (n : ℕ) :
    bproj (iblk m c 0 t) (iblk m c 1 t) r n = proj (m ((c : Thread nD τ).loc main_arg0)) (m ((c : Thread nD τ).loc main_arg1)) R n := by
  unfold bproj proj
  simp only [row0 m c t r R h, row1 m c t]

theorem blk_rope (c : Dev nD) (t : Fin cfg0.N) (r : Fin 544) (R : Fin 17408) (h : R.val = t.val * 544 + r.val) (o j : ℕ) :
    brope (iblk m c 0 t) (iblk m c 1 t) (iblk m c 3 t) (iblk m c 4 t) o r j
      = rope (m ((c : Thread nD τ).loc main_arg0)) (m ((c : Thread nD τ).loc main_arg1)) o R j := by
  unfold brope rope
  simp only [blk_proj m c t r R h, row3 m c t r R h, row4 m c t r R h]
  simp only [show j % 128 % 64 = j % 64 by omega, show j % 128 % 32 = j % 32 by omega]

/-! ## The twelve results -/

/-- The body's twelve stored blocks at a row and a column. -/
theorem outs (x : Vec Ideal S544x1024 .bf16) (w : Vec Ideal S1024x5120 .bf16) (b : Vec Ideal S1x2048 .f32)
    (ct st : Vec Ideal S544x128 .f32) (r : Fin 544) :
    (∀ j : Fin 512, out0_5 x w b ct st (ix2 r j) = bproj x w r j.val * Ideal.ofBits .f32 0x3E000000#32
      ∧ out0_6 x w b ct st (ix3 0 r j) = bproj x w r (512 + j.val)
      ∧ out0_7 x w b ct st (ix3 0 r j) = bproj x w r (1024 + j.val)
      ∧ out0_8 x w b ct st (ix2 r j) = brope x w ct st 1536 r j.val * Ideal.ofBits .f32 0x3E000000#32
      ∧ out0_9 x w b ct st (ix3 0 r j) = brope x w ct st 2048 r j.val
      ∧ out0_10 x w b ct st (ix3 0 r j) = bproj x w r (2560 + j.val)
      ∧ out0_11 x w b ct st (ix2 r j) = bproj x w r (512 + j.val)
      ∧ out0_12 x w b ct st (ix2 r j) = bproj x w r (1024 + j.val)
      ∧ out0_13 x w b ct st (ix2 r j) = brope x w ct st 2048 r j.val
      ∧ out0_14 x w b ct st (ix2 r j) = bproj x w r (2560 + j.val))
    ∧ ∀ j : Fin 1024, out0_15 x w b ct st (ix2 r j) = Ideal.logistic (bproj x w r (3072 + j.val) + b (ix2 0 ⟨j.val, by omega⟩))
      ∧ out0_16 x w b ct st (ix2 r j) = Ideal.logistic (bproj x w r (4096 + j.val) + b (ix2 0 ⟨1024 + j.val, by omega⟩)) := by
  refine ⟨fun j => ⟨?_, ?_, ?_, ?_, ?_, ?_, ?_, ?_, ?_, ?_⟩, fun j => ⟨?_, ?_⟩⟩ <;> frame_out
  · exact (pay_apply x w b ct st r j).1
  · exact (pay_apply x w b ct st r j).2.1
  · exact (pay_apply x w b ct st r j).2.2.1
  · exact pay20_apply x w b ct st r j
  · unfold k0_pay27
    refine Eq.trans ?_ (pay26_apply x w b ct st r j)
    generalize k0_pay26 (F := Ideal) (k0_pay33 x w b ct st) _ _ _ _ _ = z
    pointwise
  · exact (pay_apply x w b ct st r j).2.2.2.1
  · exact (pay_apply x w b ct st r j).2.2.2.2.1
  · exact (pay_apply x w b ct st r j).2.2.2.2.2.1
  · exact pay26_apply x w b ct st r j
  · exact (pay_apply x w b ct st r j).2.2.2.2.2.2
  · exact (gate_apply x w b ct st r j).1
  · exact (gate_apply x w b ct st r j).2

/-- The flat row of position `s` in batch `b`: each batch is padded to 2176 rows. -/
def row (b : Fin 8) (s : Fin 2064) : Fin 17408 := ⟨b.val * 2176 + s.val, by omega⟩

/-- A result kept as flat rows of 512 columns. -/
def flat512 (f : Fin 17408 → ℕ → EReal) : S17408x512.Idx → EReal := fun i => f (i 0) (i 1).val

/-- A result kept as flat rows of 1024 columns. -/
def flat1024 (f : Fin 17408 → ℕ → EReal) : S17408x1024.Idx → EReal := fun i => f (i 0) (i 1).val

/-- A result kept per batch and position. -/
def batched (f : Fin 17408 → ℕ → EReal) : S8x2064x512.Idx → EReal := fun i => f (row (i 0) (i 1)) (i 2).val

/-- A flat result's block, put at its place. -/
theorem flat_final {g : S544x512.Idx → EReal} {f : Fin 17408 → ℕ → EReal} (t : Fin cfg0.N)
    (hg : ∀ (r : Fin 544) (R : Fin 17408), R.val = t.val * 544 + r.val → ∀ j : Fin 512, g (ix2 r j) = f R j.val)
    (y : S544x512.Idx) (i : S17408x512.Idx) (h0 : (i 0 : ℕ) = t.val * 544 + (y 0 : ℕ)) (h1 : (i 1 : ℕ) = (y 1 : ℕ)) :
    g y = flat512 f i := by
  idx_vars y
  refine (hg y0 (i 0) h0 y1).trans ?_
  unfold flat512
  rw [h1]

theorem gate_final {g : S544x1024.Idx → EReal} {f : Fin 17408 → ℕ → EReal} (t : Fin cfg0.N)
    (hg : ∀ (r : Fin 544) (R : Fin 17408), R.val = t.val * 544 + r.val → ∀ j : Fin 1024, g (ix2 r j) = f R j.val)
    (y : S544x1024.Idx) (i : S17408x1024.Idx) (h0 : (i 0 : ℕ) = t.val * 544 + (y 0 : ℕ)) (h1 : (i 1 : ℕ) = (y 1 : ℕ)) :
    g y = flat1024 f i := by
  idx_vars y
  refine (hg y0 (i 0) h0 y1).trans ?_
  unfold flat1024
  rw [h1]

/-- A batched result's block, put at its place: the last block of a batch is cut at the real rows. -/
theorem batch_final {g : S1x544x512.Idx → EReal} {f : Fin 17408 → ℕ → EReal} (t : Fin cfg0.N)
    (hg : ∀ (r : Fin 544) (R : Fin 17408), R.val = t.val * 544 + r.val → ∀ j : Fin 512, g (ix3 0 r j) = f R j.val)
    (y : S1x544x512.Idx) (i : S8x2064x512.Idx) (h0 : (i 0 : ℕ) = t.val / 4 + (y 0 : ℕ)) (h1 : (i 1 : ℕ) = t.val % 4 * 544 + (y 1 : ℕ))
    (h2 : (i 2 : ℕ) = (y 2 : ℕ)) :
    g y = batched f i := by
  idx_vars y
  have hR : (row (i 0) (i 1)).val = t.val * 544 + y1.val := by
    have e0 : (i 0 : ℕ) = t.val / 4 := h0.trans (by simp)
    have e1 : (i 1 : ℕ) = t.val % 4 * 544 + y1.val := h1
    show (i 0 : ℕ) * 2176 + (i 1 : ℕ) = _
    rw [e0, e1]
    omega
  obtain rfl : y0 = 0 := Subsingleton.elim _ _
  refine (hg y1 (row (i 0) (i 1)) hR y2).trans ?_
  unfold batched
  rw [h2]

/-- The projection's arguments. -/
abbrev X (c : Dev nD) : Vec Ideal S8x2064x1024 .f32 := m ((c : Thread nD τ).loc main_arg0)
abbrev W (c : Dev nD) : Vec Ideal S1024x5120 .f32 := m ((c : Thread nD τ).loc main_arg1)
abbrev B (c : Dev nD) : Vec Ideal S2048 .f32 := m ((c : Thread nD τ).loc main_arg2)

/-- The gate's column `j`, its weights' columns from `o` and its bias from `a`. -/
def gate (x : Vec Ideal S8x2064x1024 .f32) (w : Vec Ideal S1024x5120 .f32) (b : Vec Ideal S2048 .f32) (o a : ℕ) (R : Fin 17408) (j : ℕ) : EReal :=
  Ideal.logistic (proj x w R (o + j) + if h : a + j < 2048 then b (ix1 ⟨a + j, h⟩) else 0)

/-- What the gates' bias block holds. -/
theorem blk_gate (c : Dev nD) (t : Fin cfg0.N) (r : Fin 544) (R : Fin 17408) (h : R.val = t.val * 544 + r.val) (o a : ℕ) (j : ℕ) (hj : a + j < 2048) :
    Ideal.logistic (bproj (iblk m c 0 t) (iblk m c 1 t) r (o + j) + iblk m c 2 t (ix2 0 ⟨a + j, hj⟩))
      = gate (X m c) (W m c) (B m c) o a R j := by
  unfold gate
  rw [dif_pos hj, blk_proj m c t r R h, row2 m c t]

/-! ### The flat results -/

theorem final5 (c : Dev nD) : (dats m 0 c).arrAt 5 cfg0.N = flat512 (fun R j => proj (X m c) (W m c) R j * Ideal.ofBits .f32 0x3E000000#32) := by
  refine (dats m 0 c).arrAt_eq_of_covers 5 _ (by decide +kernel) fun t hf y => ?_
  have e := (idx t).2.2.2.2.2.1.1
  blk_simp
  rw [after0_5]
  exact flat_final t (fun r R h j => ((outs _ _ _ _ _ r).1 j).1.trans (by rw [blk_proj m c t r R h])) _ _ (by blk_simp [e]) (by blk_simp [e])

theorem final8 (c : Dev nD) : (dats m 0 c).arrAt 8 cfg0.N = flat512 (fun R j => rope (X m c) (W m c) 1536 R j * Ideal.ofBits .f32 0x3E000000#32) := by
  refine (dats m 0 c).arrAt_eq_of_covers 8 _ (by decide +kernel) fun t hf y => ?_
  have e := (idx t).2.2.2.2.2.1.2.1
  blk_simp
  rw [after0_8]
  exact flat_final t (fun r R h j => ((outs _ _ _ _ _ r).1 j).2.2.2.1.trans (by rw [blk_rope m c t r R h])) _ _ (by blk_simp [e]) (by blk_simp [e])

theorem final11 (c : Dev nD) : (dats m 0 c).arrAt 11 cfg0.N = flat512 (fun R j => proj (X m c) (W m c) R (512 + j)) := by
  refine (dats m 0 c).arrAt_eq_of_covers 11 _ (by decide +kernel) fun t hf y => ?_
  have e := (idx t).2.2.2.2.2.1.2.2.1
  blk_simp
  rw [after0_11]
  exact flat_final t (fun r R h j => ((outs _ _ _ _ _ r).1 j).2.2.2.2.2.2.1.trans (blk_proj m c t r R h _)) _ _ (by blk_simp [e]) (by blk_simp [e])

theorem final12 (c : Dev nD) : (dats m 0 c).arrAt 12 cfg0.N = flat512 (fun R j => proj (X m c) (W m c) R (1024 + j)) := by
  refine (dats m 0 c).arrAt_eq_of_covers 12 _ (by decide +kernel) fun t hf y => ?_
  have e := (idx t).2.2.2.2.2.1.2.2.2.1
  blk_simp
  rw [after0_12]
  exact flat_final t (fun r R h j => ((outs _ _ _ _ _ r).1 j).2.2.2.2.2.2.2.1.trans (blk_proj m c t r R h _)) _ _ (by blk_simp [e]) (by blk_simp [e])

theorem final13 (c : Dev nD) : (dats m 0 c).arrAt 13 cfg0.N = flat512 (fun R j => rope (X m c) (W m c) 2048 R j) := by
  refine (dats m 0 c).arrAt_eq_of_covers 13 _ (by decide +kernel) fun t hf y => ?_
  have e := (idx t).2.2.2.2.2.1.2.2.2.2.1
  blk_simp
  rw [after0_13]
  exact flat_final t (fun r R h j => ((outs _ _ _ _ _ r).1 j).2.2.2.2.2.2.2.2.1.trans (blk_rope m c t r R h _ _)) _ _ (by blk_simp [e]) (by blk_simp [e])

theorem final14 (c : Dev nD) : (dats m 0 c).arrAt 14 cfg0.N = flat512 (fun R j => proj (X m c) (W m c) R (2560 + j)) := by
  refine (dats m 0 c).arrAt_eq_of_covers 14 _ (by decide +kernel) fun t hf y => ?_
  have e := (idx t).2.2.2.2.2.1.2.2.2.2.2.1
  blk_simp
  rw [after0_14]
  exact flat_final t (fun r R h j => ((outs _ _ _ _ _ r).1 j).2.2.2.2.2.2.2.2.2.trans (blk_proj m c t r R h _)) _ _ (by blk_simp [e]) (by blk_simp [e])

theorem final15 (c : Dev nD) : (dats m 0 c).arrAt 15 cfg0.N = flat1024 (gate (X m c) (W m c) (B m c) 3072 0) := by
  refine (dats m 0 c).arrAt_eq_of_covers 15 _ (by decide +kernel) fun t hf y => ?_
  have e := (idx t).2.2.2.2.2.1.2.2.2.2.2.2.1
  blk_simp
  rw [after0_15]
  exact gate_final t (fun r R h j => ((outs _ _ _ _ _ r).2 j).1.trans (by rw [← blk_gate m c t r R h 3072 0 j.val (by omega)]; simp only [Nat.zero_add])) _ _ (by blk_simp [e]) (by blk_simp [e])

theorem final16 (c : Dev nD) : (dats m 0 c).arrAt 16 cfg0.N = flat1024 (gate (X m c) (W m c) (B m c) 4096 1024) := by
  refine (dats m 0 c).arrAt_eq_of_covers 16 _ (by decide +kernel) fun t hf y => ?_
  have e := (idx t).2.2.2.2.2.1.2.2.2.2.2.2.2
  blk_simp
  rw [after0_16]
  exact gate_final t (fun r R h j => ((outs _ _ _ _ _ r).2 j).2.trans (blk_gate m c t r R h 4096 1024 j.val (by omega))) _ _ (by blk_simp [e]) (by blk_simp [e])

/-! ### The batched results -/

theorem final6 (c : Dev nD) : (dats m 0 c).arrAt 6 cfg0.N = batched (fun R j => proj (X m c) (W m c) R (512 + j)) := by
  refine (dats m 0 c).arrAt_eq_of_covers 6 _ (by decide +kernel) fun t hf y => ?_
  have e := (idx t).2.2.2.2.2.2.1
  have hy : (y 0 : ℕ) < 1 := ((cfg0.win 6).xinj (cfg0.grid.coords t) y 0).isLt
  blk_simp
  rw [after0_6]
  exact batch_final t (fun r R h j => ((outs _ _ _ _ _ r).1 j).2.1.trans (blk_proj m c t r R h _)) _ _ (by blk_simp [e]; exact congrArg (t.val / 4 + ·) (Nat.lt_one_iff.mp hy)) (by blk_simp [e]) (by blk_simp [e])

theorem final7 (c : Dev nD) : (dats m 0 c).arrAt 7 cfg0.N = batched (fun R j => proj (X m c) (W m c) R (1024 + j)) := by
  refine (dats m 0 c).arrAt_eq_of_covers 7 _ (by decide +kernel) fun t hf y => ?_
  have e := (idx t).2.2.2.2.2.2.2.1
  have hy : (y 0 : ℕ) < 1 := ((cfg0.win 7).xinj (cfg0.grid.coords t) y 0).isLt
  blk_simp
  rw [after0_7]
  exact batch_final t (fun r R h j => ((outs _ _ _ _ _ r).1 j).2.2.1.trans (blk_proj m c t r R h _)) _ _ (by blk_simp [e]; exact congrArg (t.val / 4 + ·) (Nat.lt_one_iff.mp hy)) (by blk_simp [e]) (by blk_simp [e])

theorem final9 (c : Dev nD) : (dats m 0 c).arrAt 9 cfg0.N = batched (fun R j => rope (X m c) (W m c) 2048 R j) := by
  refine (dats m 0 c).arrAt_eq_of_covers 9 _ (by decide +kernel) fun t hf y => ?_
  have e := (idx t).2.2.2.2.2.2.2.2.1
  have hy : (y 0 : ℕ) < 1 := ((cfg0.win 9).xinj (cfg0.grid.coords t) y 0).isLt
  blk_simp
  rw [after0_9]
  exact batch_final t (fun r R h j => ((outs _ _ _ _ _ r).1 j).2.2.2.2.1.trans (blk_rope m c t r R h _ _)) _ _ (by blk_simp [e]; exact congrArg (t.val / 4 + ·) (Nat.lt_one_iff.mp hy)) (by blk_simp [e]) (by blk_simp [e])

theorem final10 (c : Dev nD) : (dats m 0 c).arrAt 10 cfg0.N = batched (fun R j => proj (X m c) (W m c) R (2560 + j)) := by
  refine (dats m 0 c).arrAt_eq_of_covers 10 _ (by decide +kernel) fun t hf y => ?_
  have e := (idx t).2.2.2.2.2.2.2.2.2
  have hy : (y 0 : ℕ) < 1 := ((cfg0.win 10).xinj (cfg0.grid.coords t) y 0).isLt
  blk_simp
  rw [after0_10]
  exact batch_final t (fun r R h j => ((outs _ _ _ _ _ r).1 j).2.2.2.2.2.1.trans (blk_proj m c t r R h _)) _ _ (by blk_simp [e]; exact congrArg (t.val / 4 + ·) (Nat.lt_one_iff.mp hy)) (by blk_simp [e]) (by blk_simp [e])

end Cert.Proj

end
-- ==== Proof.ProjRef.lean ====
/- The input projection's reference, result by result. -/
module

public import proofs.«01_k».proof.Defs
public import proofs.«01_k».proof.Proof.Gen.Kernel2Ideal.Value
public import proofs.«01_k».proof.Proof.Gen.Reference2Ideal.Run
public import proofs.«01_k».proof.Proof.Proj
public import Idealize.ShloMosaic.Lib.Pipeline.ValueKit
public import Idealize.ShloMosaic.Lib.Claim
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.Proj.Ref

open Cert.Reference2Ideal Cert.Reference2Ideal.Gen Cert.Reference2Ideal.Value
open Cert.Flat (flat)
open Cert.Proj (proj rope angle)

/-- The whole projection of the padded sequences. -/
def projected (x : FVec Ideal S8x2064x1024 .f32) (w : FVec Ideal S1024x5120 .f32) : FVec Ideal S8x2176x5120 .f32 :=
  Host.dotGeneral dot_S8x2176x1024_S1024x5120_S8x2176x5120_2_0_01_1_n_n none (pad S8x2176x1024 ![0, 0, 0] ![0, 112, 0] ![0, 0, 0] x (sitofp .f32 (constantI S_ 32 0#32)) pads_S8x2064x1024_S8x2176x1024_000_01120_000 h_S_) w

/-- The angles of the positions and the pairs of lanes. -/
def angles : FVec Ideal S2176x32 .f32 :=
  mulf (broadcastInDim S2176x32 ![0, 1] bcast_S2176x1_S2176x32_0_1 (broadcastInDim S2176x1 ![0] bcast_S2176_S2176x1_0 (sitofp .f32 (iotaInDim S2176 32 0)))) (broadcastInDim S2176x32 ![0, 1] bcast_S1x32_S2176x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- A table of the positions laid along the batches and the heads. -/
def spread (a : FVec Ideal S2176x32 .f32) : FVec Ideal S8x2176x4x2x32 .f32 :=
  broadcastInDim S8x2176x4x2x32 ![0, 1, 2, 3, 4] bcast_S1x2176x1x1x32_S8x2176x4x2x32_0_1_2_3_4 (broadcastInDim S1x2176x1x1x32 ![1, 4] bcast_S2176x32_S1x2176x1x1x32_1_4 a)

/-- The 512 columns `q`, rotated. -/
def rotated (q : FVec Ideal S8x2176x512 .f32) : FVec Ideal S8x2176x4x2x64 .f32 :=
  concatenate S8x2176x4x2x64 4 [⟨S8x2176x4x2x32, (subf (mulf (extractStridedSlice S8x2176x4x2x32 ![0, 0, 0, 0, 0] (shapeCast _ q shapeCasts_S8x2176x512_S8x2176x4x2x64) slices_S8x2176x4x2x64_S8x2176x4x2x32_0_0_0_0_0) (spread (Host.cos angles))) (mulf (extractStridedSlice S8x2176x4x2x32 ![0, 0, 0, 0, 32] (shapeCast _ q shapeCasts_S8x2176x512_S8x2176x4x2x64) slices_S8x2176x4x2x64_S8x2176x4x2x32_0_0_0_0_32) (spread (Host.sin angles))))⟩, ⟨S8x2176x4x2x32, (addf (mulf (extractStridedSlice S8x2176x4x2x32 ![0, 0, 0, 0, 32] (shapeCast _ q shapeCasts_S8x2176x512_S8x2176x4x2x64) slices_S8x2176x4x2x64_S8x2176x4x2x32_0_0_0_0_32) (spread (Host.cos angles))) (mulf (extractStridedSlice S8x2176x4x2x32 ![0, 0, 0, 0, 0] (shapeCast _ q shapeCasts_S8x2176x512_S8x2176x4x2x64) slices_S8x2176x4x2x64_S8x2176x4x2x32_0_0_0_0_0) (spread (Host.sin angles))))⟩] concatenates_S8x2176x4x2x32_S8x2176x4x2x32_S8x2176x4x2x64_d4

/-- A padded row of a batch. -/
theorem flat_at (x : FVec Ideal S8x2064x1024 .f32) (b : Fin 8) (s : Fin 2176) (R : Fin 17408) (h : R.val = b.val * 2176 + s.val) (k : Fin 1024) :
    flat x R k = if hs : s.val < 2064 then x (ix3 b ⟨s.val, hs⟩ k) else FloatOps.sitofp (F := Ideal) FTy.f32 0#32 := by
  have h1 : R.val / 2176 = b.val := by omega
  have h2 : R.val % 2176 = s.val := by omega
  unfold flat
  by_cases hs : s.val < 2064
  · rw [dif_pos hs, dif_pos ⟨by omega, by omega⟩]
    congr 1
    exact congrArg₂ (fun a b => ix3 a b k) (Fin.ext h1) (Fin.ext h2)
  · rw [dif_neg hs, dif_neg (by omega)]

theorem projected_apply (x : FVec Ideal S8x2064x1024 .f32) (w : FVec Ideal S1024x5120 .f32) (b : Fin 8) (s : Fin 2176) (n : Fin 5120)
    (R : Fin 17408) (h : R.val = b.val * 2176 + s.val) :
    projected x w (ix3 b s n) = proj x w R n.val := by
  rw [proj, dif_pos n.isLt]
  unfold projected
  clean_types
  pointwise
  exact Finset.sum_congr rfl fun k _ => by rw [flat_at x b s R h k]

theorem spread_apply (a : FVec Ideal S2176x32 .f32) (b : Fin 8) (s : Fin 2176) (h : Fin 4) (u : Fin 2) (l : Fin 32) :
    spread a (ix5 b s h u l) = a (ix2 s l) := by
  unfold spread
  pointwise

theorem angles_apply (s : Fin 2176) (l : Fin 32) : angles (ix2 s l) = angle s.val l.val := by
  unfold angles
  clean_types
  pointwise [angle]

theorem rotated_apply (x : FVec Ideal S8x2064x1024 .f32) (w : FVec Ideal S1024x5120 .f32) (o : ℕ) (q : FVec Ideal S8x2176x512 .f32)
    (b : Fin 8) (s : Fin 2176) (R : Fin 17408) (hR : R.val = b.val * 2176 + s.val)
    (hq : ∀ n : Fin 512, q (ix3 b s n) = proj x w R (o + n.val)) (h : Fin 4) (u : Fin 2) (l : Fin 64) (j : ℕ)
    (hj : j = h.val * 128 + u.val * 64 + l.val) :
    rotated q (ix5 b s h u l) = rope x w o R j := by
  have hc : ∀ i : Fin 32, spread (Host.cos angles) (ix5 b s h u i) = Ideal.cos (angle (R.val % 2176) i.val) := fun i => by
    rw [spread_apply, show R.val % 2176 = s.val by omega, ← angles_apply]; rfl
  have hs : ∀ i : Fin 32, spread (Host.sin angles) (ix5 b s h u i) = Ideal.sin (angle (R.val % 2176) i.val) := fun i => by
    rw [spread_apply, show R.val % 2176 = s.val by omega, ← angles_apply]; rfl
  unfold rotated
  revert hc hs
  generalize spread (Host.cos angles) = ct
  generalize spread (Host.sin angles) = st
  intro hc hs
  clean_types
  pointwise
  unfold rope
  have e : j % 64 = l.val := by omega
  by_cases hl : l.val < 32
  · rw [dif_pos hl, e, if_pos hl, if_pos hl, show j % 32 = l.val by omega, hq, hq, hc, hs, hj, mul_neg, sub_eq_add_neg]
    congr 5
    dsimp only
    omega
  · rw [dif_neg hl, e, if_neg hl, if_neg hl, show j % 32 = l.val - 32 by omega, hq, hq, hc, hs]
    congr 4 <;> (dsimp only; omega)

/-- The twelve results off the whole projection. -/
theorem results (x : FVec Ideal S8x2064x1024 .f32) (w : FVec Ideal S1024x5120 .f32) (P : FVec Ideal S8x2176x5120 .f32)
    (hP : ∀ b s n (R : Fin 17408), R.val = b.val * 2176 + s.val → P (ix3 b s n) = proj x w R n.val) :
    (∀ (R : Fin 17408) (j : Fin 512),
      (truncf .bf16 (shapeCast S17408x512 (mulf (rotated (extractStridedSlice S8x2176x512 ![0, 0, 1536] P slices_S8x2176x5120_S8x2176x512_0_0_1536)) (broadcastInDim S8x2176x4x2x64 ![] bcast_S_S8x2176x4x2x64 (constant (F := Ideal) S_ .f32 0x3E000000#32))) shapeCasts_S8x2176x4x2x64_S17408x512) bitsLt_bf16_f32 : FVec Ideal S17408x512 .bf16) (ix2 R j)
          = rope x w 1536 R j.val * Ideal.ofBits .f32 0x3E000000#32
      ∧ (truncf .bf16 (shapeCast S17408x512 (rotated (extractStridedSlice S8x2176x512 ![0, 0, 2048] P slices_S8x2176x5120_S8x2176x512_0_0_2048)) shapeCasts_S8x2176x4x2x64_S17408x512) bitsLt_bf16_f32 : FVec Ideal S17408x512 .bf16) (ix2 R j)
          = rope x w 2048 R j.val
      ∧ (truncf .bf16 (shapeCast S17408x512 (mulf (extractStridedSlice S8x2176x512 ![0, 0, 0] P slices_S8x2176x5120_S8x2176x512_0_0_0) (broadcastInDim S8x2176x512 ![] bcast_S_S8x2176x512 (constant (F := Ideal) S_ .f32 0x3E000000#32))) shapeCasts_S8x2176x512_S17408x512) bitsLt_bf16_f32 : FVec Ideal S17408x512 .bf16) (ix2 R j)
          = proj x w R j.val * Ideal.ofBits .f32 0x3E000000#32
      ∧ (truncf .bf16 (shapeCast S17408x512 (extractStridedSlice S8x2176x512 ![0, 0, 512] P slices_S8x2176x5120_S8x2176x512_0_0_512) shapeCasts_S8x2176x512_S17408x512) bitsLt_bf16_f32 : FVec Ideal S17408x512 .bf16) (ix2 R j)
          = proj x w R (512 + j.val)
      ∧ (truncf .bf16 (shapeCast S17408x512 (extractStridedSlice S8x2176x512 ![0, 0, 1024] P slices_S8x2176x5120_S8x2176x512_0_0_1024) shapeCasts_S8x2176x512_S17408x512) bitsLt_bf16_f32 : FVec Ideal S17408x512 .bf16) (ix2 R j)
          = proj x w R (1024 + j.val)
      ∧ (truncf .bf16 (shapeCast S17408x512 (extractStridedSlice S8x2176x512 ![0, 0, 2560] P slices_S8x2176x5120_S8x2176x512_0_0_2560) shapeCasts_S8x2176x512_S17408x512) bitsLt_bf16_f32 : FVec Ideal S17408x512 .bf16) (ix2 R j)
          = proj x w R (2560 + j.val)) := by
  intro R j
  have hR : R.val = R.val / 2176 * 2176 + R.val % 2176 := by omega
  refine ⟨?_, ?_, ?_, ?_, ?_, ?_⟩
  · generalize hC : rotated (extractStridedSlice S8x2176x512 ![0, 0, 1536] P slices_S8x2176x5120_S8x2176x512_0_0_1536) = C
    pointwise
    subst hC
    exact congrArg (fun z : EReal => z * Ideal.ofBits .f32 0x3E000000#32) (rotated_apply x w 1536 _ ⟨R.val / 2176, by omega⟩ ⟨R.val % 2176, by omega⟩ R (by dsimp only; omega)
      (fun n => by pointwise; exact hP _ _ ⟨1536 + n.val, by omega⟩ R (by dsimp only; omega)) _ _ _ j.val (by dsimp only; omega))
  · generalize hC : rotated (extractStridedSlice S8x2176x512 ![0, 0, 2048] P slices_S8x2176x5120_S8x2176x512_0_0_2048) = C
    pointwise
    subst hC
    exact (rotated_apply x w 2048 _ ⟨R.val / 2176, by omega⟩ ⟨R.val % 2176, by omega⟩ R (by dsimp only; omega)
      (fun n => by pointwise; exact hP _ _ ⟨2048 + n.val, by omega⟩ R (by dsimp only; omega)) _ _ _ j.val (by dsimp only; omega))
  · pointwise
    exact congrArg (fun z : EReal => z * Ideal.ofBits .f32 0x3E000000#32) (hP _ _ ⟨j.val, by omega⟩ R hR)
  all_goals
    pointwise
    exact hP _ _ _ R hR

/-- The four batched results off the whole projection. -/
theorem results_batched (x : FVec Ideal S8x2064x1024 .f32) (w : FVec Ideal S1024x5120 .f32) (P : FVec Ideal S8x2176x5120 .f32)
    (hP : ∀ b s n (R : Fin 17408), R.val = b.val * 2176 + s.val → P (ix3 b s n) = proj x w R n.val) (d : Fin 8) (s : Fin 2064) (j : Fin 512) :
    (extractStridedSlice S8x2064x512 ![0, 0, 0] (extractStridedSlice S8x2176x512 ![0, 0, 512] P slices_S8x2176x5120_S8x2176x512_0_0_512) slices_S8x2176x512_S8x2064x512_0_0_0 : FVec Ideal S8x2064x512 .f32) (ix3 d s j) = proj x w (Cert.Proj.row d s) (512 + j.val)
      ∧ (extractStridedSlice S8x2064x512 ![0, 0, 0] (extractStridedSlice S8x2176x512 ![0, 0, 1024] P slices_S8x2176x5120_S8x2176x512_0_0_1024) slices_S8x2176x512_S8x2064x512_0_0_0 : FVec Ideal S8x2064x512 .f32) (ix3 d s j) = proj x w (Cert.Proj.row d s) (1024 + j.val)
      ∧ (extractStridedSlice S8x2064x512 ![0, 0, 0] (extractStridedSlice S8x2176x512 ![0, 0, 2560] P slices_S8x2176x5120_S8x2176x512_0_0_2560) slices_S8x2176x512_S8x2064x512_0_0_0 : FVec Ideal S8x2064x512 .f32) (ix3 d s j) = proj x w (Cert.Proj.row d s) (2560 + j.val)
      ∧ (shapeCast S8x2064x512 (extractStridedSlice S8x2064x4x2x64 ![0, 0, 0, 0, 0] (rotated (extractStridedSlice S8x2176x512 ![0, 0, 2048] P slices_S8x2176x5120_S8x2176x512_0_0_2048)) slices_S8x2176x4x2x64_S8x2064x4x2x64_0_0_0_0_0) shapeCasts_S8x2064x4x2x64_S8x2064x512 : FVec Ideal S8x2064x512 .f32) (ix3 d s j) = rope x w 2048 (Cert.Proj.row d s) j.val := by
  refine ⟨?_, ?_, ?_, ?_⟩
  iterate 3
    · pointwise
      exact hP _ _ _ (Cert.Proj.row d s) rfl
  · generalize hC : rotated (extractStridedSlice S8x2176x512 ![0, 0, 2048] P slices_S8x2176x5120_S8x2176x512_0_0_2048) = C
    pointwise
    subst hC
    exact rotated_apply x w 2048 _ d ⟨s.val, by omega⟩ (Cert.Proj.row d s) rfl
      (fun n => by pointwise; exact hP _ _ ⟨2048 + n.val, by omega⟩ (Cert.Proj.row d s) rfl) _ _ _ j.val (by dsimp only; omega)

/-- The gates off the whole projection. -/
theorem results_gate (x : FVec Ideal S8x2064x1024 .f32) (w : FVec Ideal S1024x5120 .f32) (b : FVec Ideal S2048 .f32) (P : FVec Ideal S8x2176x5120 .f32)
    (hP : ∀ b s n (R : Fin 17408), R.val = b.val * 2176 + s.val → P (ix3 b s n) = proj x w R n.val) (R : Fin 17408) (j : Fin 1024) :
    (truncf .bf16 (shapeCast S17408x1024 (Host.divf (broadcastInDim S8x2176x1024 ![] bcast_S_S8x2176x1024 (constant (F := Ideal) S_ .f32 0x3F800000#32)) (addf (broadcastInDim S8x2176x1024 ![] bcast_S_S8x2176x1024 (constant (F := Ideal) S_ .f32 0x3F800000#32)) (Host.exp (Host.negf (addf (extractStridedSlice S8x2176x1024 ![0, 0, 3072] P slices_S8x2176x5120_S8x2176x1024_0_0_3072) (broadcastInDim S8x2176x1024 ![0, 1, 2] bcast_S1x1x1024_S8x2176x1024_0_1_2 (broadcastInDim S1x1x1024 ![2] bcast_S1024_S1x1x1024_2 (extractStridedSlice S1024 ![0] b slices_S2048_S1024_0)))))))) shapeCasts_S8x2176x1024_S17408x1024) bitsLt_bf16_f32 : FVec Ideal S17408x1024 .bf16) (ix2 R j) = Cert.Proj.gate x w b 3072 0 R j.val
      ∧ (truncf .bf16 (shapeCast S17408x1024 (Host.divf (broadcastInDim S8x2176x1024 ![] bcast_S_S8x2176x1024 (constant (F := Ideal) S_ .f32 0x3F800000#32)) (addf (broadcastInDim S8x2176x1024 ![] bcast_S_S8x2176x1024 (constant (F := Ideal) S_ .f32 0x3F800000#32)) (Host.exp (Host.negf (addf (extractStridedSlice S8x2176x1024 ![0, 0, 4096] P slices_S8x2176x5120_S8x2176x1024_0_0_4096) (broadcastInDim S8x2176x1024 ![0, 1, 2] bcast_S1x1x1024_S8x2176x1024_0_1_2 (broadcastInDim S1x1x1024 ![2] bcast_S1024_S1x1x1024_2 (extractStridedSlice S1024 ![1024] b slices_S2048_S1024_1024)))))))) shapeCasts_S8x2176x1024_S17408x1024) bitsLt_bf16_f32 : FVec Ideal S17408x1024 .bf16) (ix2 R j) = Cert.Proj.gate x w b 4096 1024 R j.val := by
  have hR : R.val = R.val / 2176 * 2176 + R.val % 2176 := by omega
  refine ⟨?_, ?_⟩
  · rw [Cert.Proj.gate, dif_pos (by omega)]
    pointwise
    exact congrArg (fun z : EReal => Ideal.logistic (z + _)) (hP _ _ ⟨3072 + j.val, by omega⟩ R hR)
  · rw [Cert.Proj.gate, dif_pos (by omega)]
    pointwise
    exact congrArg (fun z : EReal => Ideal.logistic (z + _)) (hP _ _ ⟨4096 + j.val, by omega⟩ R hR)

/-- A flat array read at every row and column. -/
theorem flat512_ext {g : S17408x512.Idx → EReal} {f : Fin 17408 → ℕ → EReal} (h : ∀ (R : Fin 17408) (j : Fin 512), g (ix2 R j) = f R j.val) :
    g = Cert.Proj.flat512 f := by
  funext i
  idx_vars i
  exact h i0 i1

theorem flat1024_ext {g : S17408x1024.Idx → EReal} {f : Fin 17408 → ℕ → EReal} (h : ∀ (R : Fin 17408) (j : Fin 1024), g (ix2 R j) = f R j.val) :
    g = Cert.Proj.flat1024 f := by
  funext i
  idx_vars i
  exact h i0 i1

theorem batched_ext {g : S8x2064x512.Idx → EReal} {f : Fin 17408 → ℕ → EReal}
    (h : ∀ (d : Fin 8) (s : Fin 2064) (j : Fin 512), g (ix3 d s j) = f (Cert.Proj.row d s) j.val) : g = Cert.Proj.batched f := by
  funext i
  idx_vars i
  exact h i0 i1 i2

end Cert.Proj.Ref

namespace Cert.Proj

open Cert.Proj.Ref (projected projected_apply results results_batched results_gate flat512_ext flat1024_ext batched_ext)

set_option maxHeartbeats 2000000 in
/-- The kernel's twelve results are the reference's. -/
theorem algebraic : Cert.algebraic_Kernel2Ideal_Reference2Ideal := by
  pair_intro
  · run_from Cert.Kernel2Ideal.Value.run_blocks m g
  · run_from Cert.Reference2Ideal.Value.run m' g'
    all_goals
      obtain ⟨h0, h1, h2⟩ := hagree c
      try unfold Cert.Reference2Ideal.Value.res_main_v98
      try unfold Cert.Reference2Ideal.Value.res_main_v100
      try unfold Cert.Reference2Ideal.Value.res_main_v107
      try rw [h0, h1]
      have hP := projected_apply (X m c) (W m c)
    · exact (flat512_ext fun R j => (results _ _ _ hP R j).2.2.1).trans (final5 m c).symm
    · exact (batched_ext fun b s j => (results_batched _ _ _ hP b s j).1).trans (final6 m c).symm
    · exact (batched_ext fun b s j => (results_batched _ _ _ hP b s j).2.1).trans (final7 m c).symm
    · exact (flat512_ext fun R j => (results _ _ _ hP R j).1).trans (final8 m c).symm
    · exact (batched_ext fun b s j => (results_batched _ _ _ hP b s j).2.2.2).trans (final9 m c).symm
    · exact (batched_ext fun b s j => (results_batched _ _ _ hP b s j).2.2.1).trans (final10 m c).symm
    · exact (flat512_ext fun R j => (results _ _ _ hP R j).2.2.2.1).trans (final11 m c).symm
    · exact (flat512_ext fun R j => (results _ _ _ hP R j).2.2.2.2.1).trans (final12 m c).symm
    · exact (flat512_ext fun R j => (results _ _ _ hP R j).2.1).trans (final13 m c).symm
    · exact (flat512_ext fun R j => (results _ _ _ hP R j).2.2.2.2.2).trans (final14 m c).symm
    · exact (flat1024_ext fun R j => (results_gate _ _ (B m c) _ hP R j).1).trans (final15 m c).symm
    · exact (flat1024_ext fun R j => (results_gate _ _ (B m c) _ hP R j).2).trans (final16 m c).symm

end Cert.Proj

end
-- ==== Proof.lean ====
/- The claims put together: the generated frames, the references' frames from their generated runs, and the value claims of
   Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.StickTie
public import proofs.«01_k».proof.Proof.Merge
public import proofs.«01_k».proof.Proof.ProjRef
public import Idealize.ShloMosaic.Adequacy
public import Idealize.ShloMosaic.Init

@[expose] public section

noncomputable section

namespace Cert.Proof

open Idealize.ShloMosaic Idealize.SL.Sem

/-! The references leave their arguments as they were and declare no semaphore. -/

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference2 : Cert.quiescent_Reference2Ideal := fun m ρ _ =>
  (θ_run Cert.Reference2Ideal.defs _ _).mono (fun r h => ⟨fun c => (h c).2.2.2.2.2.2.2.2.2.2.2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    trivial, Cert.Stick.algebraic, trivial, Cert.Proj.algebraic, trivial, Cert.Merge.algebraic, trivial⟩

end Cert.Proof

end
